-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x2048 : Shape := ⟨2, ![4, 2048]⟩
abbrev S2048x2048 : Shape := ⟨2, ![2048, 2048]⟩
abbrev S_ : Shape := ⟨0, ![]⟩

class Facts : Prop where
  bcast_S_S4x2048 : S_.BroadcastsInDim S4x2048 (![] : Fin 0 → Fin S4x2048.rank)
  reducesTo_S4x2048_S_d0_1 : S4x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S4x2048 .f32) (main_arg1 : FVec F S2048x2048 .f32) : IVec S_ 1 :=
  let main_v0 : FVec F S4x2048 .f32 := Host.absf main_arg0
  let main_cst : FVec F S_ .f32 := constant S_ .f32 0x7F800000#32
  let main_v1 : FVec F S4x2048 .f32 := broadcastInDim S4x2048 ![] bcast_S_S4x2048 main_cst
  let main_v2 : IVec S4x2048 1 := cmpf .olt main_v0 main_v1
  let main_c : IVec S_ 1 := constantI S_ 1 1#1
  let main_v3 : IVec S_ 1 := (fun x v => Host.reduce IntOp.andi x v reducesTo_S4x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S4x2048 : Shape := ⟨2, ![4, 2048]⟩
abbrev S2048x2048 : Shape := ⟨2, ![2048, 2048]⟩
abbrev S2048x4 : Shape := ⟨2, ![2048, 4]⟩
abbrev S4x1x2048 : Shape := ⟨3, ![4, 1, 2048]⟩
abbrev S1x1x2048 : Shape := ⟨3, ![1, 1, 2048]⟩
abbrev S2048x512 : Shape := ⟨2, ![2048, 512]⟩
abbrev S1x1x512 : Shape := ⟨3, ![1, 1, 512]⟩
abbrev S1x2048 : Shape := ⟨2, ![1, 2048]⟩
abbrev S2048x1 : Shape := ⟨2, ![2048, 1]⟩
abbrev S256x4 : Shape := ⟨2, ![256, 4]⟩
abbrev S1x4 : Shape := ⟨2, ![1, 4]⟩
abbrev S256 : Shape := ⟨1, ![256]⟩
abbrev S256x1 : Shape := ⟨2, ![256, 1]⟩
abbrev S256x2048 : Shape := ⟨2, ![256, 2048]⟩
abbrev S2048 : Shape := ⟨1, ![2048]⟩
abbrev S512 : Shape := ⟨1, ![512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S4x2048, .f32⟩
  | .hbm, ⟨1, _⟩ => ⟨S2048x2048, .f32⟩
  | .hbm, ⟨2, _⟩ => ⟨S2048x4, .f32⟩
  | .hbm, ⟨3, _⟩ => ⟨S4x1x2048, .f32⟩
  | .hbm, ⟨4, _⟩ => ⟨S4x1x2048, .f32⟩
  | .hbm, ⟨5, _⟩ => ⟨S4x2048, .f32⟩
  | .local _ .vmem, ⟨0, _⟩ => ⟨S1x1x2048, .f32⟩
  | .local _ .vmem, ⟨1, _⟩ => ⟨S1x1x2048, .f32⟩
  | .local _ .vmem, ⟨2, _⟩ => ⟨S2048x4, .f32⟩
  | .local _ .vmem, ⟨3, _⟩ => ⟨S2048x512, .f32⟩
  | .local _ .vmem, ⟨4, _⟩ => ⟨S2048x512, .f32⟩
  | .local _ .vmem, ⟨5, _⟩ => ⟨S1x1x512, .f32⟩
  | .local _ .vmem, ⟨6, _⟩ => ⟨S1x1x512, .f32⟩
  | .local _ .vmem, ⟨7, _⟩ => ⟨S1x2048, .f32⟩
  | .local _ .vmem, ⟨8, _⟩ => ⟨S2048x1, .f32⟩
  | .local _ .vmem, ⟨9, _⟩ => ⟨S2048x2048, .bf16⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_31 : BitVec 32 := 0#32
  let c8_i32 : BitVec 32 := 8#32
  let v72 : BitVec 32 := Scalar.addi c0_i32_31 c8_i32
  let c1_i32 : BitVec 32 := 1#32
  ⟨c0_i32_31, v72, c1_i32⟩
def k0_off1 (k0_t1 : Fin k0_t1_loop.trips) : Fin 2 → Nat :=
  let c0_i32_31 : BitVec 32 := 0#32
  let c1_i32 : BitVec 32 := 1#32
  let arg9 : BitVec 32 := Scf.iv c0_i32_31 c1_i32 k0_t1
  let c256_i32 : BitVec 32 := 256#32
  let v88 : BitVec 32 := Scalar.muli arg9 c256_i32
  let v89 : Index := Scalar.indexCast v88
  let c0_41 : Index := 0#32
  ![v89.toNat, 0]
@[reducible] def k0_t2_loop : Scf.Loop 32 :=
  let c0_i32_35 : BitVec 32 := 0#32
  let c8_i32_36 : BitVec 32 := 8#32
  let v77 : BitVec 32 := Scalar.addi c0_i32_35 c8_i32_36
  let c1_i32_37 : BitVec 32 := 1#32
  ⟨c0_i32_35, v77, c1_i32_37⟩
def k0_off2 (k0_t2 : Fin k0_t2_loop.trips) : Fin 2 → Nat :=
  let c0_i32_35 : BitVec 32 := 0#32
  let c1_i32_37 : BitVec 32 := 1#32
  let arg9 : BitVec 32 := Scf.iv c0_i32_35 c1_i32_37 k0_t2
  let c256_i32_45 : BitVec 32 := 256#32
  let v108 : BitVec 32 := Scalar.muli arg9 c256_i32_45
  let v109 : Index := Scalar.indexCast v108
  let c0_46 : Index := 0#32
  ![v109.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4x2048 : Shape := ⟨2, ![4, 2048]⟩
abbrev S2048x2048 : Shape := ⟨2, ![2048, 2048]⟩
abbrev S_ : Shape := ⟨0, ![]⟩
abbrev S2048 : Shape := ⟨1, ![2048]⟩
abbrev S4x2048x1 : Shape := ⟨3, ![4, 2048, 1]⟩
abbrev S1 : Shape := ⟨1, ![1]⟩
abbrev S1x1x1 : Shape := ⟨3, ![1, 1, 1]⟩
abbrev S4x2048x2048 : Shape := ⟨3, ![4, 2048, 2048]⟩
abbrev S1x1x2048 : Shape := ⟨3, ![1, 1, 2048]⟩
abbrev S4x1x1 : Shape := ⟨3, ![4, 1, 1]⟩
abbrev S4x2049x1 : Shape := ⟨3, ![4, 2049, 1]⟩
abbrev S4x2048x1x1 : Shape := ⟨4, ![4, 2048, 1, 1]⟩
abbrev S1x1x1x1 : Shape := ⟨4, ![1, 1, 1, 1]⟩

abbrev nBuf : Space → Nat
  | .hbm => 107
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048x2048, .f32⟩
  | .hbm, ⟨2, _⟩ => ⟨S_, .f32⟩
  | .hbm, ⟨3, _⟩ => ⟨S2048, .f32⟩
  | .hbm, ⟨4, _⟩ => ⟨S_, .f32⟩
  | .hbm, ⟨5, _⟩ => ⟨S2048, .f32⟩
  | .hbm, ⟨6, _⟩ => ⟨S4x2048, .i32⟩
  | .hbm, ⟨7, _⟩ => ⟨S4x2048, .f32⟩
  | .hbm, ⟨8, _⟩ => ⟨S4x2048, .i32⟩
  | .hbm, ⟨9, _⟩ => ⟨S4x2048, .f32⟩
  | .hbm, ⟨10, _⟩ => ⟨S4x2048x1, .f32⟩
  | .hbm, ⟨11, _⟩ => ⟨S_, .i32⟩
  | .hbm, ⟨12, _⟩ => ⟨S4x2048, .i32⟩
  | .hbm, ⟨13, _⟩ => ⟨S4x2048, .i1⟩
  | .hbm, ⟨14, _⟩ => ⟨S_, .i32⟩
  | .hbm, ⟨15, _⟩ => ⟨S4x2048, .i32⟩
  | .hbm, ⟨16, _⟩ => ⟨S4x2048, .i32⟩
  | .hbm, ⟨17, _⟩ => ⟨S4x2048, .i32⟩
  | .hbm, ⟨18, _⟩ => ⟨S4x2048x1, .i32⟩
  | .hbm, ⟨19, _⟩ => ⟨S1, .i32⟩
  | .hbm, ⟨20, _⟩ => ⟨S_, .i32⟩
  | .hbm, ⟨21, _⟩ => ⟨S4x2048x1, .i32⟩
  | .hbm, ⟨22, _⟩ => ⟨S4x2048x1, .i1⟩
  | .hbm, ⟨23, _⟩ => ⟨S1x1x1, .i32⟩
  | .hbm, ⟨24, _⟩ => ⟨S4x2048x1, .i32⟩
  | .hbm, ⟨25, _⟩ => ⟨S4x2048x1, .i1⟩
  | .hbm, ⟨26, _⟩ => ⟨S4x2048x1, .i1⟩
  | .hbm, ⟨27, _⟩ => ⟨S_, .i1⟩
  | .hbm, ⟨28, _⟩ => ⟨S4x2048, .i1⟩
  | .hbm, ⟨29, _⟩ => ⟨S4x2048x2048, .f32⟩
  | .hbm, ⟨30, _⟩ => ⟨S4x2048x2048, .i1⟩
  | .hbm, ⟨31, _⟩ => ⟨S_, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S4x2048x2048, .f32⟩
  | .hbm, ⟨36, _⟩ => ⟨S_, .f32⟩
  | .hbm, ⟨37, _⟩ => ⟨S_, .f32⟩
  | .hbm, ⟨38, _⟩ => ⟨S4x2048x2048, .f32⟩
  | .hbm, ⟨39, _⟩ => ⟨S_, .f32⟩
  | .hbm, ⟨40, _⟩ => ⟨S_, .f32⟩
  | .hbm, ⟨41, _⟩ => ⟨S4x2048x2048, .f32⟩
  | .hbm, ⟨42, _⟩ => ⟨S1x1x2048, .f32⟩
  | .hbm, ⟨43, _⟩ => ⟨S4x2048x2048, .f32⟩
  | .hbm, ⟨44, _⟩ => ⟨S4x2048x2048, .f32⟩
  | .hbm, ⟨45, _⟩ => ⟨S_, .f32⟩
  | .hbm, ⟨46, _⟩ => ⟨S2048, .f32⟩
  | .hbm, ⟨47, _⟩ => ⟨S2048, .f32⟩
  | .hbm, ⟨48, _⟩ => ⟨S1x1x2048, .f32⟩
  | .hbm, ⟨49, _⟩ => ⟨S4x2048x2048, .f32⟩
  | .hbm, ⟨50, _⟩ => ⟨S4x2048x2048, .f32⟩
  | .hbm, ⟨51, _⟩ => ⟨S1x1x2048, .f32⟩
  | .hbm, ⟨52, _⟩ => ⟨S4x2048x2048, .f32⟩
  | .hbm, ⟨53, _⟩ => ⟨S4x2048x2048, .f32⟩
  | .hbm, ⟨54, _⟩ => ⟨S4x2048x2048, .f32⟩
  | .hbm, ⟨55, _⟩ => ⟨S_, .f32⟩
  | .hbm, ⟨56, _⟩ => ⟨S4x1x1, .f32⟩
  | .hbm, ⟨57, _⟩ => ⟨S4x2049x1, .f32⟩
  | .hbm, ⟨58, _⟩ => ⟨S4x2048x1, .f32⟩
  | .hbm, ⟨59, _⟩ => ⟨S4x2048x2048, .f32⟩
  | .hbm, ⟨60, _⟩ => ⟨S4x2048x2048, .i1⟩
  | .hbm, ⟨61, _⟩ => ⟨S4x2048x2048, .f32⟩
  | .hbm, ⟨62, _⟩ => ⟨S1x1x2048, .f32⟩
  | .hbm, ⟨63, _⟩ => ⟨S4x2048x2048, .f32⟩
  | .hbm, ⟨64, _⟩ => ⟨S4x2048x2048, .f32⟩
  | .hbm, ⟨65, _⟩ => ⟨S_, .f32⟩
  | .hbm, ⟨66, _⟩ => ⟨S4x2048x2048, .f32⟩
  | .hbm, ⟨67, _⟩ => ⟨S4x2048x2048, .i1⟩
  | .hbm, ⟨68, _⟩ => ⟨S4x2048x2048, .f32⟩
  | .hbm, ⟨69, _⟩ => ⟨S4x2048x2048, .f32⟩
  | .hbm, ⟨70, _⟩ => ⟨S4x2048x2048, .i32⟩
  | .hbm, ⟨71, _⟩ => ⟨S_, .f32⟩
  | .hbm, ⟨72, _⟩ => ⟨S_, .i32⟩
  | .hbm, ⟨73, _⟩ => ⟨S4x2048, .f32⟩
  | .hbm, ⟨74, _⟩ => ⟨S4x2048, .i32⟩
  | .hbm, ⟨75, _⟩ => ⟨S4x2048x2048, .f32⟩
  | .hbm, ⟨76, _⟩ => ⟨S4x2048x1, .i32⟩
  | .hbm, ⟨77, _⟩ => ⟨S_, .i32⟩
  | .hbm, ⟨78, _⟩ => ⟨S4x2048x1, .i32⟩
  | .hbm, ⟨79, _⟩ => ⟨S4x2048x1, .i1⟩
  | .hbm, ⟨80, _⟩ => ⟨S_, .i32⟩
  | .hbm, ⟨81, _⟩ => ⟨S4x2048x1, .i32⟩
  | .hbm, ⟨82, _⟩ => ⟨S4x2048x1, .i32⟩
  | .hbm, ⟨83, _⟩ => ⟨S4x2048x1, .i32⟩
  | .hbm, ⟨84, _⟩ => ⟨S4x2048x1x1, .i32⟩
  | .hbm, ⟨85, _⟩ => ⟨S1, .i32⟩
  | .hbm, ⟨86, _⟩ => ⟨S_, .i32⟩
  | .hbm, ⟨87, _⟩ => ⟨S4x2048x1x1, .i32⟩
  | .hbm, ⟨88, _⟩ => ⟨S4x2048x1x1, .i1⟩
  | .hbm, ⟨89, _⟩ => ⟨S1x1x1x1, .i32⟩
  | .hbm, ⟨90, _⟩ => ⟨S4x2048x1x1, .i32⟩
  | .hbm, ⟨91, _⟩ => ⟨S4x2048x1x1, .i1⟩
  | .hbm, ⟨92, _⟩ => ⟨S4x2048x1x1, .i1⟩
  | .hbm, ⟨93, _⟩ => ⟨S_, .i1⟩
  | .hbm, ⟨94, _⟩ => ⟨S4x2048x1, .i1⟩
  | .hbm, ⟨95, _⟩ => ⟨S4x2048x1, .f32⟩
  | .hbm, ⟨96, _⟩ => ⟨S_, .f32⟩
  | .hbm, ⟨97, _⟩ => ⟨S4x2048x1, .f32⟩
  | .hbm, ⟨98, _⟩ => ⟨S4x2048x1, .f32⟩
  | .hbm, ⟨99, _⟩ => ⟨S4x2048, .f32⟩
  | .hbm, ⟨100, _⟩ => ⟨S_, .f32⟩
  | .hbm, ⟨101, _⟩ => ⟨S4x2048, .f32⟩
  | .hbm, ⟨102, _⟩ => ⟨S4x2048, .i1⟩
  | .hbm, ⟨103, _⟩ => ⟨S_, .f32⟩
  | .hbm, ⟨104, _⟩ => ⟨S_, .f32⟩
  | .hbm, ⟨105, _⟩ => ⟨S4x2048, .f32⟩
  | .hbm, ⟨106, _⟩ => ⟨S4x2048, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_call0_v0 : Ref sig .tc := ⟨.hbm, 6, rfl⟩
abbrev main_call0_v1_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call2_c : Ref sig .tc := ⟨.hbm, 11, rfl⟩
abbrev main_call2_v0 : Ref sig .tc := ⟨.hbm, 12, rfl⟩
abbrev main_call2_v1 : Ref sig .tc := ⟨.hbm, 13, rfl⟩
abbrev main_call2_c_0 : Ref sig .tc := ⟨.hbm, 14, rfl⟩
abbrev main_call2_v2 : Ref sig .tc := ⟨.hbm, 15, rfl⟩
abbrev main_call2_v3 : Ref sig .tc := ⟨.hbm, 16, rfl⟩
abbrev main_call2_v4 : Ref sig .tc := ⟨.hbm, 17, rfl⟩
abbrev main_call2_v5 : Ref sig .tc := ⟨.hbm, 18, rfl⟩
abbrev main_call2_c_1 : Ref sig .tc := ⟨.hbm, 19, rfl⟩
abbrev main_call2_c_2 : Ref sig .tc := ⟨.hbm, 20, rfl⟩
abbrev main_call2_v6 : Ref sig .tc := ⟨.hbm, 21, rfl⟩
abbrev main_call2_v7 : Ref sig .tc := ⟨.hbm, 22, rfl⟩
abbrev main_call2_v8 : Ref sig .tc := ⟨.hbm, 23, rfl⟩
abbrev main_call2_v9 : Ref sig .tc := ⟨.hbm, 24, rfl⟩
abbrev main_call2_v10 : Ref sig .tc := ⟨.hbm, 25, rfl⟩
abbrev main_call2_v11 : Ref sig .tc := ⟨.hbm, 26, rfl⟩
abbrev main_call2_c_3 : Ref sig .tc := ⟨.hbm, 27, rfl⟩
abbrev main_call2_v12 : Ref sig .tc := ⟨.hbm, 28, rfl⟩
abbrev main_call2_v13 : Ref sig .tc := ⟨.hbm, 29, rfl⟩
abbrev main_call2_v14 : Ref sig .tc := ⟨.hbm, 30, rfl⟩
abbrev main_call2_cst : Ref sig .tc := ⟨.hbm, 31, rfl⟩
abbrev main_call2_v15 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_call3_call0_cst : Ref sig .tc := ⟨.hbm, 36, rfl⟩
abbrev main_call3_call0_v0 : Ref sig .tc := ⟨.hbm, 37, rfl⟩
abbrev main_v8 : Ref sig .tc := ⟨.hbm, 38, rfl⟩
abbrev main_call4_call0_cst : Ref sig .tc := ⟨.hbm, 39, rfl⟩
abbrev main_call4_call0_v0 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_cst_1 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_cst_2 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_cst_3 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_call5_v0 : Ref sig .tc := ⟨.hbm, 70, rfl⟩
abbrev main_call5_cst : Ref sig .tc := ⟨.hbm, 71, rfl⟩
abbrev main_call5_c : Ref sig .tc := ⟨.hbm, 72, rfl⟩
abbrev main_call5_v1_0 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_call6_c : Ref sig .tc := ⟨.hbm, 77, rfl⟩
abbrev main_call6_v0 : Ref sig .tc := ⟨.hbm, 78, rfl⟩
abbrev main_call6_v1 : Ref sig .tc := ⟨.hbm, 79, rfl⟩
abbrev main_call6_c_0 : Ref sig .tc := ⟨.hbm, 80, rfl⟩
abbrev main_call6_v2 : Ref sig .tc := ⟨.hbm, 81, rfl⟩
abbrev main_call6_v3 : Ref sig .tc := ⟨.hbm, 82, rfl⟩
abbrev main_call6_v4 : Ref sig .tc := ⟨.hbm, 83, rfl⟩
abbrev main_call6_v5 : Ref sig .tc := ⟨.hbm, 84, rfl⟩
abbrev main_call6_c_1 : Ref sig .tc := ⟨.hbm, 85, rfl⟩
abbrev main_call6_c_2 : Ref sig .tc := ⟨.hbm, 86, rfl⟩
abbrev main_call6_v6 : Ref sig .tc := ⟨.hbm, 87, rfl⟩
abbrev main_call6_v7 : Ref sig .tc := ⟨.hbm, 88, rfl⟩
abbrev main_call6_v8 : Ref sig .tc := ⟨.hbm, 89, rfl⟩
abbrev main_call6_v9 : Ref sig .tc := ⟨.hbm, 90, rfl⟩
abbrev main_call6_v10 : Ref sig .tc := ⟨.hbm, 91, rfl⟩
abbrev main_call6_v11 : Ref sig .tc := ⟨.hbm, 92, rfl⟩
abbrev main_call6_c_3 : Ref sig .tc := ⟨.hbm, 93, rfl⟩
abbrev main_call6_v12 : Ref sig .tc := ⟨.hbm, 94, rfl⟩
abbrev main_call6_v13 : Ref sig .tc := ⟨.hbm, 95, rfl⟩
abbrev main_call6_cst : Ref sig .tc := ⟨.hbm, 96, rfl⟩
abbrev main_call6_v14 : Ref sig .tc := ⟨.hbm, 97, rfl⟩
abbrev main_v38 : Ref sig .tc := ⟨.hbm, 98, rfl⟩
abbrev main_v39 : Ref sig .tc := ⟨.hbm, 99, rfl⟩
abbrev main_cst_4 : Ref sig .tc := ⟨.hbm, 100, rfl⟩
abbrev main_v40 : Ref sig .tc := ⟨.hbm, 101, rfl⟩
abbrev main_v41 : Ref sig .tc := ⟨.hbm, 102, rfl⟩
abbrev main_cst_5 : Ref sig .tc := ⟨.hbm, 103, rfl⟩
abbrev main_call7_v0 : Ref sig .tc := ⟨.hbm, 104, rfl⟩
abbrev main_call7_v1 : Ref sig .tc := ⟨.hbm, 105, rfl⟩
abbrev main_v42 : Ref sig .tc := ⟨.hbm, 106, rfl⟩

abbrev nD : Nat := 1
abbrev τ : Topo := Topo.v7x

variable {F : FTy → Type} [FloatOps F]
-- ==== Proof.KernelPieces.lean ====
module

public import proofs.«01_k».proof.Proof.Gen.KernelIdeal.Frame
public import Idealize.ShloMosaic.Lib.Pipeline.Value
public import Idealize.ShloMosaic.Lib.Pointwise

@[expose] public section

set_option maxRecDepth 16384

noncomputable section

namespace Cert.Proof.Ker

open Cert.KernelIdeal Cert.KernelIdeal.Gen
open Idealize.ShloMosaic Idealize.ShloMosaic.TcCoe Idealize.ShloMosaic.Tactic Idealize.SL.Sem

variable {F : FTy → Type} [FloatOps F]
variable (c : Dev nD) (i : grid0.Coords)
  (arg2 : Memref sig .tc .vmem S1x1x2048 .f32) (harg2 : arg2.IsWhole) (arg3 : Memref sig .tc .vmem S2048x4 .f32) (harg3 : arg3.IsWhole)
  (arg4 : Memref sig .tc .vmem S2048x512 .f32) (harg4 : arg4.IsWhole) (arg5 : Memref sig .tc .vmem S1x1x512 .f32) (harg5 : arg5.IsWhole)
  (arg6 : Memref sig .tc .vmem S1x2048 .f32) (harg6 : arg6.IsWhole) (arg7 : Memref sig .tc .vmem S2048x1 .f32) (harg7 : arg7.IsWhole)
  (arg8 : Memref sig .tc .vmem S2048x2048 .bf16) (harg8 : arg8.IsWhole)

/-- The offset of a whole block of rank two is zero. -/
theorem zero2 : (![0, 0] : Fin 2 → ℕ) = fun _ => 0 := by funext a; fin_cases a <;> rfl

/-- The offset of a whole block of rank three is zero. -/
theorem zero3 : (![0, 0, 0] : Fin 3 → ℕ) = fun _ => 0 := by funext a; fin_cases a <;> rfl

/-- At a later column tile the block written is the last payload over the blocks read and the two carried scratches. -/
theorem outB (hc : ¬cond0_0 i) (x0 : Vec F S1x1x2048 .f32) (x1 : Vec F S2048x4 .f32) (x2 : Vec F S2048x512 .f32)
    (xs1 : Vec F S2048x1 .f32) (xs2 : Vec F S2048x2048 .bf16) :
    out0_B_3 c i arg2 harg2 arg3 harg3 arg4 harg4 arg5 harg5 arg6 harg6 arg7 harg7 arg8 harg8 hc x0 x1 x2 xs1 xs2
      = k0_pay1 (k0_pay8 x2 xs2) (k0_pay9 i x2 x1 xs2) (k0_pay10 x2 xs2) (k0_pay11 x2 xs2 xs1) := by
  unfold out0_B_3
  rw [View.read_writes_eq_canon _ _ _ (cover0_B_3 c i arg2 harg2 arg3 harg3 arg4 harg4 arg5 harg5 arg6 harg6 arg7 harg7 arg8 harg8 hc x0 x1 x2 xs1 xs2)]
  unfold kernelRun0_B
  dsimp only
  sl_unfold_words
  rw [View.canon_unit_zero zero3]
  simp only [View.readAt_eq_ld, harg2.read_unread, harg3.read_unread, harg4.read_unread, harg7.read_unread, harg8.read_unread, View.ld_unit_zero (S := S2048x512) zero2, View.ld_unit_zero (S := S2048x2048) zero2, View.ld_unit_zero (S := S2048x4) zero2, View.ld_unit_zero (S := S2048x1) zero2,View.ld_unit_zero (S := S1x1x2048) zero3]

/-- One trip of the ranking loop yields its payload over the chunk of the transposed times it loads. -/
theorem trip1 (𝒱 : Variants) (bd : Option 𝒱.V) (h1 : k0_cond1 i = 1#1) (v68 : Vec F S1x1x2048 .f32) (x1 : Vec F S2048x4 .f32) (k : Fin k0_t1_loop.trips) (acc : FVec F S1x2048 .f32) :
    tripR_k0_t1 𝒱 c bd i arg2 harg2 arg3 harg3 arg4 harg4 arg5 harg5 arg6 harg6 arg7 harg7 arg8 harg8 h1 v68 (harg3.unread x1) k acc
      = k0_pay4 i v68 k acc (View.ld (Val := Elt F) x1 (Rect.unit (s := S2048x4) (k0_off1 k) S256x4.size (k0_off1_inb i k h1))) := by
  unfold tripR_k0_t1 trip_k0_t1
  dsimp only
  rw [View.readAt_eq_ld, harg3.read_unread]

/-- One trip of the second loop writes one piece: its payload, at its rows. -/
theorem trip2 (𝒱 : Variants) (bd : Option 𝒱.V) (h1 : k0_cond1 i = 1#1) (v68 : Vec F S1x1x2048 .f32) (v73 : FVec F S1x2048 .f32) (k : Fin k0_t2_loop.trips) :
    tripL_k0_t2 𝒱 c bd i arg2 harg2 arg3 harg3 arg4 harg4 arg5 harg5 arg6 harg6 arg7 harg7 arg8 harg8 h1 v68 v73 k
      = [⟨Rect.unit (s := S2048x1) (k0_off2 k) S256x1.size (k0_off2_inb i k h1), k0_pay6 v68 v73 k⟩] := by
  unfold tripL_k0_t2 trip_k0_t2
  dsimp only

/-- The row of ranks before trip `k` of the ranking loop. -/
def rankRow (hc : cond0_0 i) (x0 : Vec F S1x1x2048 .f32) (x1 : Vec F S2048x4 .f32) : ℕ → FVec F S1x2048 .f32
  | 0 => k0_pay3
  | k + 1 => if h : k < k0_t1_loop.trips then
      k0_pay4 i x0 ⟨k, h⟩ (rankRow hc x0 x1 k) (View.ld (Val := Elt F) x1 (Rect.unit (s := S2048x4) (k0_off1 ⟨k, h⟩) S256x4.size (k0_off1_inb i ⟨k, h⟩ hc)))
    else rankRow hc x0 x1 k

/-- What the ranking loop carries before trip `k` is that row. -/
theorem st_eq (hc : cond0_0 i) (x0 : Vec F S1x1x2048 .f32) (x1 : Vec F S2048x4 .f32) : ∀ k, k ≤ k0_t1_loop.trips →
    st_k0_t1 Variants.none c none i arg2 harg2 arg3 harg3 arg4 harg4 arg5 harg5 arg6 harg6 arg7 harg7 arg8 harg8 hc x0 (harg3.unread x1) k0_pay3 k = rankRow i hc x0 x1 k
  | 0, _ => rfl
  | k + 1, hk => by
    rw [st_k0_t1_succ Variants.none c none i arg2 harg2 arg3 harg3 arg4 harg4 arg5 harg5 arg6 harg6 arg7 harg7 arg8 harg8 hc x0 (harg3.unread x1) k0_pay3 ⟨k, hk⟩, trip1,
      st_eq hc x0 x1 k (Nat.le_of_succ_le hk)]
    exact (dif_pos (Nat.lt_of_succ_le hk) : rankRow i hc x0 x1 (k + 1) = _).symm

/-- The second loop makes eight trips. -/
theorem trips2 : k0_t2_loop.trips = 8 := by decide

/-- The first loop makes eight trips. -/
theorem trips1 : k0_t1_loop.trips = 8 := by decide

/-- The next event time of row `n`: row `n % 256` of the payload of trip `n / 256`. -/
def nextAt (x0 : Vec F S1x1x2048 .f32) (v73 : FVec F S1x2048 .f32) (n : ℕ) (hn : n < 2048) : F .f32 :=
  k0_pay6 x0 v73 ⟨n / 256, by rw [trips2]; omega⟩ (ix2 (⟨n % 256, Nat.mod_lt _ (by decide)⟩ : Fin 256) (0 : Fin 1))

/-- The column of next event times, from the times and the ranks. -/
def nextCol (x0 : Vec F S1x1x2048 .f32) (v73 : FVec F S1x2048 .f32) : Vec F S2048x1 .f32 := fun y => nextAt x0 v73 (y 0).val (y 0).isLt

/-- The payload of trip `k` at row `r` is the next event time of row `256 * k + r`. -/
theorem nextAt_of (x0 : Vec F S1x1x2048 .f32) (v73 : FVec F S1x2048 .f32) (n : ℕ) (hn : n < 2048) (k : Fin k0_t2_loop.trips) (x : S256x1.Idx)
    (h : n = 256 * k.val + (x 0).val) : nextAt x0 v73 n hn = k0_pay6 x0 v73 k x := by
  have hx : (x 0).val < 256 := (x 0).isLt
  have e1 : n / 256 = k.val := by omega
  have e2 : n % 256 = (x 0).val := by omega
  have ek : (⟨n / 256, by rw [trips2]; omega⟩ : Fin k0_t2_loop.trips) = k := Fin.ext e1
  unfold nextAt
  rw [ek]
  congr 1
  funext a
  refine Fin.ext ?_
  fin_cases a
  · exact e2
  · have h : (x 1).val < 1 := (x 1).isLt
    show 0 = (x 1).val
    omega

/-- Every piece written before trip `k` of the second loop agrees with that column, and every row below `256 * k` is in one. -/
theorem pb_agree (hc : cond0_0 i) (x0 : Vec F S1x1x2048 .f32) (v73 : FVec F S1x2048 .f32) : ∀ k, k ≤ k0_t2_loop.trips →
    (∀ p ∈ pb_k0_t2 Variants.none c none i arg2 harg2 arg3 harg3 arg4 harg4 arg5 harg5 arg6 harg6 arg7 harg7 arg8 harg8 hc x0 v73 k, ∀ x : p.1.shape.Idx, p.2 x = nextCol x0 v73 (p.1.emb x))
      ∧ ∀ y : S2048x1.Idx, (y 0).val < 256 * k → ∃ p ∈ pb_k0_t2 Variants.none c none i arg2 harg2 arg3 harg3 arg4 harg4 arg5 harg5 arg6 harg6 arg7 harg7 arg8 harg8 hc x0 v73 k, y ∈ p.1.set
  | 0, _ => ⟨fun p hp => absurd hp List.not_mem_nil, fun y hy => absurd hy (by omega)⟩
  | k + 1, hk => by
    obtain ⟨ih1, ih2⟩ := pb_agree hc x0 v73 k (Nat.le_of_succ_le hk)
    rw [pb_k0_t2_succ Variants.none c none i arg2 harg2 arg3 harg3 arg4 harg4 arg5 harg5 arg6 harg6 arg7 harg7 arg8 harg8 hc x0 v73 ⟨k, hk⟩, trip2]
    refine ⟨fun p hp => ?_, fun y hy => ?_⟩
    · rcases List.mem_append.mp hp with hp | hp
      · obtain rfl := List.mem_singleton.mp hp
        intro x
        refine (nextAt_of x0 v73 _ _ ⟨k, hk⟩ x ?_).symm
        rw [Rect.emb_apply]
        have e : (k0_off2 ⟨k, hk⟩) 0 = 256 * k := by rw [k0_off2_eq]; rfl
        show (k0_off2 ⟨k, hk⟩) 0 + 1 * (x 0).val = 256 * k + (x 0).val
        rw [Nat.one_mul]
        exact congrArg (· + (x 0).val) e
      · exact ih1 p hp
    · by_cases hlt : (y 0).val < 256 * k
      · obtain ⟨p, hp, hy'⟩ := ih2 y hlt
        exact ⟨p, List.mem_append.mpr (.inr hp), hy'⟩
      · refine ⟨_, List.mem_append.mpr (.inl (List.mem_singleton.mpr rfl)), ?_⟩
        rw [Rect.mem_set_unit]
        have hy1 : (y 1).val < 1 := (y 1).isLt
        intro a
        rw [k0_off2_eq]
        fin_cases a
        · show 256 * k ≤ (y 0).val ∧ (y 0).val < 256 * k + 256
          omega
        · show 0 ≤ (y 1).val ∧ (y 1).val < 0 + 1
          omega

/-- The pieces of the whole second loop cover the scratch they are written into. -/
theorem pb_cover (hc : cond0_0 i) (x0 : Vec F S1x1x2048 .f32) (v73 : FVec F S1x2048 .f32) (y : S2048x1.Idx) :
    ∃ p ∈ pb_k0_t2 Variants.none c none i arg2 harg2 arg3 harg3 arg4 harg4 arg5 harg5 arg6 harg6 arg7 harg7 arg8 harg8 hc x0 v73 k0_t2_loop.trips, y ∈ p.1.set :=
  (pb_agree c i arg2 harg2 arg3 harg3 arg4 harg4 arg5 harg5 arg6 harg6 arg7 harg7 arg8 harg8 hc x0 v73 _ le_rfl).2 y (by rw [trips2]; have h : (y 0).val < 2048 := (y 0).isLt; omega)

/-- Read back, they are that column. -/
theorem pb_canon (hc : cond0_0 i) (x0 : Vec F S1x1x2048 .f32) (v73 : FVec F S1x2048 .f32) :
    View.canon (pb_k0_t2 Variants.none c none i arg2 harg2 arg3 harg3 arg4 harg4 arg5 harg5 arg6 harg6 arg7 harg7 arg8 harg8 hc x0 v73 k0_t2_loop.trips) = nextCol x0 v73 :=
  funext fun y => View.canon_apply_of_pieces (nextCol x0 v73) _ (pb_agree c i arg2 harg2 arg3 harg3 arg4 harg4 arg5 harg5 arg6 harg6 arg7 harg7 arg8 harg8 hc x0 v73 _ le_rfl).1 y (pb_cover c i arg2 harg2 arg3 harg3 arg4 harg4 arg5 harg5 arg6 harg6 arg7 harg7 arg8 harg8 hc x0 v73 y)

/-- The matrix scratch after the first column tile of a batch row is its payload over the ranks. -/
theorem soutA2 (hc : cond0_0 i) (x0 : Vec F S1x1x2048 .f32) (x1 : Vec F S2048x4 .f32) (x2 : Vec F S2048x512 .f32) :
    sout0_A_2 c i arg2 harg2 arg3 harg3 arg4 harg4 arg5 harg5 arg6 harg6 arg7 harg7 arg8 harg8 hc x0 x1 x2 = k0_pay7 (rankRow i hc x0 x1 k0_t1_loop.trips) := by
  rw [← st_eq c i arg2 harg2 arg3 harg3 arg4 harg4 arg5 harg5 arg6 harg6 arg7 harg7 arg8 harg8 hc x0 x1 _ le_rfl]
  unfold sout0_A_2
  rw [View.read_writes_eq_canon _ _ _ (scover0_A_2 c i arg2 harg2 arg3 harg3 arg4 harg4 arg5 harg5 arg6 harg6 arg7 harg7 arg8 harg8 hc x0 x1 x2)]
  unfold kernelRun0_A
  dsimp only
  sl_unfold_words
  rw [View.canon_unit_zero zero2]
  simp only [View.readAt_eq_ld, harg2.read_unread, View.ld_unit_zero (S := S1x1x2048) zero3]

/-- The column scratch after the first column tile of a batch row is the column of next event times. -/
theorem soutA1 (hc : cond0_0 i) (x0 : Vec F S1x1x2048 .f32) (x1 : Vec F S2048x4 .f32) (x2 : Vec F S2048x512 .f32) :
    sout0_A_1 c i arg2 harg2 arg3 harg3 arg4 harg4 arg5 harg5 arg6 harg6 arg7 harg7 arg8 harg8 hc x0 x1 x2 = nextCol x0 (rankRow i hc x0 x1 k0_t1_loop.trips) := by
  rw [← pb_canon c i arg2 harg2 arg3 harg3 arg4 harg4 arg5 harg5 arg6 harg6 arg7 harg7 arg8 harg8 hc, ← st_eq c i arg2 harg2 arg3 harg3 arg4 harg4 arg5 harg5 arg6 harg6 arg7 harg7 arg8 harg8 hc x0 x1 _ le_rfl]
  unfold sout0_A_1
  rw [View.read_writes_eq_canon _ _ _ (scover0_A_1 c i arg2 harg2 arg3 harg3 arg4 harg4 arg5 harg5 arg6 harg6 arg7 harg7 arg8 harg8 hc x0 x1 x2)]
  unfold kernelRun0_A
  dsimp only
  sl_unfold_words
  simp only [View.readAt_eq_ld, harg2.read_unread, View.ld_unit_zero (S := S1x1x2048) zero3]

/-- At the first column tile of a batch row the block written is the last payload over the blocks read and the two
    scratches just computed. -/
theorem outA (hc : cond0_0 i) (x0 : Vec F S1x1x2048 .f32) (x1 : Vec F S2048x4 .f32) (x2 : Vec F S2048x512 .f32) :
    out0_A_3 c i arg2 harg2 arg3 harg3 arg4 harg4 arg5 harg5 arg6 harg6 arg7 harg7 arg8 harg8 hc x0 x1 x2
      = k0_pay1 (k0_pay8 x2 (k0_pay7 (rankRow i hc x0 x1 k0_t1_loop.trips))) (k0_pay9 i x2 x1 (k0_pay7 (rankRow i hc x0 x1 k0_t1_loop.trips)))
          (k0_pay10 x2 (k0_pay7 (rankRow i hc x0 x1 k0_t1_loop.trips)))
          (k0_pay11 x2 (k0_pay7 (rankRow i hc x0 x1 k0_t1_loop.trips)) (nextCol x0 (rankRow i hc x0 x1 k0_t1_loop.trips))) := by
  rw [← pb_canon c i arg2 harg2 arg3 harg3 arg4 harg4 arg5 harg5 arg6 harg6 arg7 harg7 arg8 harg8 hc, ← st_eq c i arg2 harg2 arg3 harg3 arg4 harg4 arg5 harg5 arg6 harg6 arg7 harg7 arg8 harg8 hc x0 x1 _ le_rfl]
  unfold out0_A_3
  rw [View.read_writes_eq_canon _ _ _ (cover0_A_3 c i arg2 harg2 arg3 harg3 arg4 harg4 arg5 harg5 arg6 harg6 arg7 harg7 arg8 harg8 hc x0 x1 x2)]
  unfold kernelRun0_A
  dsimp only
  sl_unfold_words
  rw [View.canon_unit_zero zero3]
  simp only [View.readAt_eq_ld, harg2.read_unread, harg3.read_unread, harg4.read_unread, View.ld_unit_zero (S := S2048x512) zero2, View.ld_unit_zero (S := S2048x4) zero2,
    View.ld_unit_zero (S := S1x1x2048) zero3]
  rw [View.readCov_unit_zero (S := S2048x2048) _ zero2,
    View.readCov_eq_canon_ld _ _ _ (pb_cover c i arg2 harg2 arg3 harg3 arg4 harg4 arg5 harg5 arg6 harg6 arg7 harg7 arg8 harg8 hc x0 _), View.ld_unit_zero (S := S2048x1) zero2]

end Cert.Proof.Ker
-- ==== Proof.Spec.lean ====
/-
  The function both programs compute, over real inputs: the ranks of the event times, the partial sums in rank order, the
  first admissible position, the quotient there and the cut at one. And the facts that tie the ranks to a sorting
  permutation.
-/
module

public import Idealize.ShloMosaic.Lib.IdealHost

@[expose] public section

noncomputable section

namespace Cert.Proof.Spec

open Idealize.ShloMosaic

variable {n : ℕ}

/-- The least position at which `C` holds, and zero when there is none. -/
def first (C : Fin n → Prop) : ℕ := sInf {d | ∃ h : d < n, C ⟨d, h⟩}

/-- Where `C` holds somewhere, it holds at its least position. -/
theorem first_spec {C : Fin n → Prop} (h : ∃ d, C d) : ∃ hl : first C < n, C ⟨first C, hl⟩ := by
  obtain ⟨d, hd⟩ := h
  exact Nat.sInf_mem (s := {d | ∃ h : d < n, C ⟨d, h⟩}) ⟨d.val, d.isLt, hd⟩

/-- No position at which `C` holds is below the least. -/
theorem first_le {C : Fin n → Prop} {d : Fin n} (h : C d) : first C ≤ d.val :=
  Nat.sInf_le (s := {d | ∃ h : d < n, C ⟨d, h⟩}) ⟨d.isLt, h⟩

/-- Where `C` never holds, the position is zero. -/
theorem first_none {C : Fin n → Prop} (h : ∀ d, ¬ C d) : first C = 0 := by
  have e : {d | ∃ h : d < n, C ⟨d, h⟩} = ∅ := by
    ext d; simp only [Set.mem_setOf_eq, Set.mem_empty_iff_false, iff_false]
    rintro ⟨hd, hc⟩; exact h _ hc
  unfold first; rw [e]; exact Nat.sInf_empty

/-- The position is in range, the range being non-empty. -/
theorem first_lt (hn : 0 < n) (C : Fin n → Prop) : first C < n := by
  by_cases h : ∃ d, C d
  · exact (first_spec h).1
  · rw [first_none fun d hd => h ⟨d, hd⟩]; exact hn

/-- Equivalent predicates have the same least position. -/
theorem first_congr {C D : Fin n → Prop} (h : ∀ d, C d ↔ D d) : first C = first D := by
  have : C = D := funext fun d => propext (h d)
  rw [this]

/-- The least position as a member of the range. -/
def firstAt (hn : 0 < n) (C : Fin n → Prop) : Fin n := ⟨first C, first_lt hn C⟩

/-- Event `k` comes before event `j`: it is earlier, or simultaneous with a smaller index. -/
def before (t : Fin n → ℝ) (k j : Fin n) : Prop := t k < t j ∨ (t k = t j ∧ k < j)

instance (t : Fin n → ℝ) (k j : Fin n) : Decidable (before t k j) := Classical.dec _

/-- An event's rank: the number of events before it. -/
def rank (t : Fin n → ℝ) (j : Fin n) : ℕ := (Finset.univ.filter fun k => before t k j).card

/-- One plus the weights of the events of rank at most `d`. -/
def mass (t w : Fin n → ℝ) (d : ℕ) : ℝ := (∑ j, if rank t j ≤ d then w j else 0) + 1

/-- The weighted times of the events of rank at most `d`. -/
def moment (t w : Fin n → ℝ) (d : ℕ) : ℝ := ∑ j, if rank t j ≤ d then w j * t j else 0

/-- The time of the event of rank `d + 1`; a million past the last. -/
def next (t : Fin n → ℝ) (d : ℕ) : ℝ := if d + 1 = n then 1000000 else ∑ j, if rank t j = d + 1 then t j else 0

/-- Position `d` is admissible: the mass is positive and the quotient comes before the next event. -/
def admissible (t w : Fin n → ℝ) (d : Fin n) : Prop :=
  0 < mass t w d.val ∧ moment t w d.val < next t d.val * mass t w d.val

/-- A time later than one is cut to one. -/
def clip (v : EReal) : EReal := if v ≤ 1 then v else 1

/-- The value computed: the quotient at the first admissible position, cut at one. -/
def value (hn : 0 < n) (t w : Fin n → ℝ) : EReal :=
  clip (Ideal.div ((moment t w (first (admissible t w)) : ℝ) : EReal) ((mass t w (first (admissible t w)) : ℝ) : EReal))

/-- A finite sum of reals is the same sum of extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of reals with a nonzero divisor is the real quotient. -/
theorem div_coe (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

/-- No event is before itself, and of two events one is before the other exactly when the other is not before it. -/
theorem before_asymm {t : Fin n → ℝ} {k j : Fin n} (h : before t k j) : ¬ before t j k := by
  rintro (h' | ⟨h', h''⟩) <;> rcases h with h | ⟨h, h3⟩
  · exact absurd h (not_lt.mpr h'.le)
  · exact absurd h' (by rw [h]; exact lt_irrefl _)
  · exact absurd h (by rw [h']; exact lt_irrefl _)
  · exact absurd h3 (not_lt.mpr h''.le)

/-- The rank of the event a sorting permutation puts at position `d` is `d`. -/
theorem rank_perm (t : Fin n → ℝ) (σ : Equiv.Perm (Fin n)) (hσ : ∀ a b, a < b → before t (σ a) (σ b)) (d : Fin n) :
    rank t (σ d) = d.val := by
  have key : (Finset.univ.filter fun k => before t k (σ d)) = (Finset.univ.filter fun e : Fin n => e < d).map σ.toEmbedding := by
    ext k
    simp only [Finset.mem_filter, Finset.mem_univ, true_and, Finset.mem_map, Equiv.coe_toEmbedding]
    constructor
    · intro h
      refine ⟨σ.symm k, ?_, σ.apply_symm_apply k⟩
      by_contra hlt
      rcases lt_or_eq_of_le (not_lt.mp hlt) with h1 | h1
      · have := hσ _ _ h1
        rw [σ.apply_symm_apply] at this
        exact before_asymm h this
      · rw [h1, σ.apply_symm_apply] at h
        exact before_asymm h h
    · rintro ⟨e, he, rfl⟩
      exact hσ _ _ he
  unfold rank
  rw [key, Finset.card_map]
  have : (Finset.univ.filter fun e : Fin n => e < d) = Finset.Iio d := by ext e; simp
  rw [this, Fin.card_Iio]

/-- The mass in sorted order. -/
theorem mass_perm (t w : Fin n → ℝ) (σ : Equiv.Perm (Fin n)) (hσ : ∀ a b, a < b → before t (σ a) (σ b)) (d : ℕ) :
    mass t w d = (∑ e : Fin n, if e.val ≤ d then w (σ e) else 0) + 1 := by
  unfold mass
  rw [← Equiv.sum_comp σ]
  simp only [rank_perm t σ hσ]

/-- The moment in sorted order. -/
theorem moment_perm (t w : Fin n → ℝ) (σ : Equiv.Perm (Fin n)) (hσ : ∀ a b, a < b → before t (σ a) (σ b)) (d : ℕ) :
    moment t w d = ∑ e : Fin n, if e.val ≤ d then w (σ e) * t (σ e) else 0 := by
  unfold moment
  rw [← Equiv.sum_comp σ]
  simp only [rank_perm t σ hσ]

/-- The next event time in sorted order. -/
theorem next_perm (t : Fin n → ℝ) (σ : Equiv.Perm (Fin n)) (hσ : ∀ a b, a < b → before t (σ a) (σ b)) (d : ℕ) (hd : d + 1 < n) :
    next t d = t (σ ⟨d + 1, hd⟩) := by
  unfold next
  rw [if_neg (by omega), ← Equiv.sum_comp σ]
  simp only [rank_perm t σ hσ]
  rw [Finset.sum_eq_single (⟨d + 1, hd⟩ : Fin n)]
  · simp
  · intro e _ he
    rw [if_neg]
    intro h; exact he (Fin.ext h)
  · intro h; exact absurd (Finset.mem_univ _) h

/-- Past the last event the next time is a million. -/
theorem next_last (t : Fin n → ℝ) (d : ℕ) (hd : d + 1 = n) : next t d = 1000000 := if_pos hd

/-- A position is admissible when the mass is positive and the quotient itself is before the next event. -/
theorem admissible_iff (t w : Fin n → ℝ) (d : Fin n) : admissible t w d ↔
    Ideal.div ((moment t w d.val : ℝ) : EReal) ((mass t w d.val : ℝ) : EReal) < ((next t d.val : ℝ) : EReal)
      ∧ (0 : EReal) < ((mass t w d.val : ℝ) : EReal) := by
  unfold admissible
  constructor
  · rintro ⟨h0, h1⟩
    refine ⟨?_, by exact_mod_cast h0⟩
    rw [div_coe _ _ h0.ne', EReal.coe_lt_coe_iff, div_lt_iff₀ h0]
    exact h1
  · rintro ⟨h1, h0⟩
    have h0' : 0 < mass t w d.val := by exact_mod_cast h0
    refine ⟨h0', ?_⟩
    rw [div_coe _ _ h0'.ne', EReal.coe_lt_coe_iff, div_lt_iff₀ h0'] at h1
    exact h1

end Cert.Proof.Spec

end
-- ==== Proof.Words.lean ====
/-
  Words and bits, read: comparisons of small numbers held as 32-bit words, selections on a comparison's bit, numbers
  converted to the ideal values, and the least word of a family.
-/
module

public import proofs.«01_k».proof.Proof.Spec
public import Idealize.ShloMosaic.Lib.Scf

@[expose] public section

noncomputable section

namespace Cert.Proof.Words

open Idealize.ShloMosaic Cert.Proof.Spec

/-- A one-bit word made of a proposition is one exactly when the proposition holds. -/
theorem bit_eq_one (p : Prop) [Decidable p] : BitVec.ofBool (decide p) = 1#1 ↔ p := by
  by_cases h : p <;> simp [h]

/-- A selection on such a bit. -/
theorem select_bit {α : Type} (p : Prop) [Decidable p] (a b : α) : Scalar.select (BitVec.ofBool (decide p)) a b = if p then a else b := by
  unfold Scalar.select
  by_cases h : p <;> simp [h]

/-- A selection on any bit. -/
theorem select_eq {α : Type} (c : BitVec 1) (a b : α) : Scalar.select c a b = if c = 1#1 then a else b := rfl

/-- The disjunction of two such bits. -/
theorem ori_bit (p q : Prop) [Decidable p] [Decidable q] :
    IntOp.ori (BitVec.ofBool (decide p)) (BitVec.ofBool (decide q)) = BitVec.ofBool (decide (p ∨ q)) := by
  by_cases hp : p <;> by_cases hq : q <;> simp [hp, hq, IntOp.ori]

/-- The conjunction of two such bits. -/
theorem andi_bit (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- A conjunction of bits is one exactly when both are. -/
theorem andi_eq_one (x y : BitVec 1) : IntOp.andi x y = 1#1 ↔ x = 1#1 ∧ y = 1#1 := by
  revert x y; decide

/-- Words of numbers below `2 ^ 32` are equal exactly when the numbers are. -/
theorem ofNat_inj {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- Equality of two small words, as a bit. -/
theorem cmpi_eq {a b : ℕ} (ha : a < 2 ^ 32) (hb : b < 2 ^ 32) :
    IntOp.cmpi .eq (BitVec.ofNat 32 a) (BitVec.ofNat 32 b) = BitVec.ofBool (decide (a = b)) := by
  unfold IntOp.cmpi
  by_cases h : a = b
  · subst h; simp
  · have h' : ¬ BitVec.ofNat 32 a = BitVec.ofNat 32 b := fun e => h ((ofNat_inj ha hb).mp e)
    simp only [h, decide_false]
    exact congrArg BitVec.ofBool (beq_eq_false_iff_ne.mpr h')

/-- A small word read as a signed number. -/
theorem toInt_ofNat {a : ℕ} (ha : a < 2 ^ 31) : (BitVec.ofNat 32 a).toInt = (a : ℤ) := by
  rw [BitVec.toInt_eq_toNat_cond, BitVec.toNat_ofNat, Nat.mod_eq_of_lt (by omega), if_pos (by omega)]

/-- The signed order of two small words. -/
theorem slt_ofNat {a b : ℕ} (ha : a < 2 ^ 31) (hb : b < 2 ^ 31) : (BitVec.ofNat 32 a).slt (BitVec.ofNat 32 b) = decide (a < b) := by
  rw [BitVec.slt_eq_decide, toInt_ofNat ha, toInt_ofNat hb]
  exact decide_eq_decide.mpr Int.ofNat_lt

/-- The signed order of two small words, as a bit. -/
theorem cmpi_slt {a b : ℕ} (ha : a < 2 ^ 31) (hb : b < 2 ^ 31) :
    IntOp.cmpi .slt (BitVec.ofNat 32 a) (BitVec.ofNat 32 b) = BitVec.ofBool (decide (a < b)) :=
  congrArg BitVec.ofBool (slt_ofNat ha hb)

/-- Row `r` of trip `k` in chunks of 256 is row `256 * k + r`. -/
theorem trip_word (r k : ℕ) :
    IntOp.addi (BitVec.ofNat 32 r) (Scalar.muli (Scf.iv 0#32 1#32 k) 256#32) = BitVec.ofNat 32 (256 * k + r) := by
  unfold Scalar.muli IntOp.addi IntOp.muli Scf.iv
  apply BitVec.eq_of_toNat_eq
  simp only [BitVec.toNat_add, BitVec.toNat_mul, BitVec.toNat_ofNat]
  omega

/-- The successor of a word of a number. -/
theorem succ_word (a : ℕ) : IntOp.addi (BitVec.ofNat 32 a) 1#32 = BitVec.ofNat 32 (a + 1) := by
  unfold IntOp.addi
  apply BitVec.eq_of_toNat_eq
  simp only [BitVec.toNat_add, BitVec.toNat_ofNat]
  omega

/-- A small word converted is the number. -/
theorem sitofp_nat {a : ℕ} (ha : a < 2 ^ 31) : (FloatOps.sitofp .f32 (BitVec.ofNat 32 a) : Ideal .f32) = ((a : ℝ) : EReal) := by
  show (((BitVec.ofNat 32 a).toInt : ℝ) : EReal) = _
  rw [toInt_ofNat ha]
  norm_cast

/-- A widened bit converted is one or zero. -/
theorem sitofp_bit (p : Prop) [Decidable p] :
    (FloatOps.sitofp .f32 (BitVec.setWidth 32 (BitVec.ofBool (decide p))) : Ideal .f32) = if p then 1 else 0 := by
  by_cases h : p
  · rw [if_pos h, decide_eq_true h]
    show ((((BitVec.setWidth 32 (BitVec.ofBool true)).toInt : ℤ) : ℝ) : EReal) = 1
    have : (BitVec.setWidth 32 (BitVec.ofBool true)).toInt = 1 := by decide
    rw [this]; norm_num
  · rw [if_neg h, decide_eq_false h]
    show ((((BitVec.setWidth 32 (BitVec.ofBool false)).toInt : ℤ) : ℝ) : EReal) = 0
    have : (BitVec.setWidth 32 (BitVec.ofBool false)).toInt = 0 := by decide
    rw [this]; norm_num

/-- A bit converted without sign is one or zero. -/
theorem uitofp_bit (p : Prop) [Decidable p] : (FloatOps.uitofp .f32 (BitVec.ofBool (decide p)) : Ideal .f32) = if p then 1 else 0 := by
  by_cases h : p
  · rw [if_pos h, decide_eq_true h]
    show ((((BitVec.ofBool true).toNat : ℕ) : ℝ) : EReal) = 1
    have : (BitVec.ofBool true).toNat = 1 := by decide
    rw [this]; norm_num
  · rw [if_neg h, decide_eq_false h]
    show ((((BitVec.ofBool false).toNat : ℕ) : ℝ) : EReal) = 0
    have : (BitVec.ofBool false).toNat = 0 := by decide
    rw [this]; norm_num

/-- A sum over four columns of a value kept at one column only is that value. -/
theorem column {i : ℕ} (hi : i < 4) (f : Fin 4 → EReal) :
    ∑ x : Fin 4, Scalar.select (IntOp.cmpi .eq (BitVec.ofNat 32 x.val) (BitVec.ofNat 32 i)) (f x) 0 = f ⟨i, hi⟩ := by
  rw [Finset.sum_eq_single (⟨i, hi⟩ : Fin 4)]
  · rw [cmpi_eq (by omega) (by omega), select_bit, if_pos rfl]
  · intro x _ hx
    rw [cmpi_eq (by omega) (by omega), select_bit, if_neg]
    intro h; exact hx (Fin.ext h)
  · intro h; exact absurd (Finset.mem_univ _) h

/-- The least of two small words is the word of the least. -/
theorem minsi_ofNat {a b : ℕ} (ha : a < 2 ^ 31) (hb : b < 2 ^ 31) :
    IntOp.minsi (BitVec.ofNat 32 a) (BitVec.ofNat 32 b) = BitVec.ofNat 32 (min a b) := by
  unfold IntOp.minsi
  rw [slt_ofNat ha hb]
  by_cases h : a < b
  · simp [h, min_eq_left h.le]
  · simp [h, min_eq_right (not_lt.mp h)]

/-- The least of a family of small words is the word of the least. -/
theorem fold_minsi {ι : Type} (s : Finset ι) (z : ℕ) (hz : z < 2 ^ 31) (f : ι → ℕ) (hf : ∀ i, f i < 2 ^ 31) :
    s.fold IntOp.minsi (BitVec.ofNat 32 z) (fun i => BitVec.ofNat 32 (f i)) = BitVec.ofNat 32 (s.fold min z f) := by
  classical
  have key : s.fold IntOp.minsi (BitVec.ofNat 32 z) (fun i => BitVec.ofNat 32 (f i)) = BitVec.ofNat 32 (s.fold min z f) ∧ s.fold min z f < 2 ^ 31 := by
    induction s using Finset.induction_on with
    | empty => exact ⟨rfl, hz⟩
    | insert a s ha ih =>
      rw [Finset.fold_insert ha, Finset.fold_insert ha, ih.1, minsi_ofNat (hf a) ih.2]
      exact ⟨rfl, lt_of_le_of_lt (min_le_left _ _) (hf a)⟩
  exact key.1

/-- The least of the positions at which `C` holds, the others counted as `n`: it is the first position, or `n` when there is none. -/
theorem fold_first {n : ℕ} (C : Fin n → Prop) [DecidablePred C] (z : ℕ) (hz : n ≤ z) (hn : 0 < n) :
    Finset.univ.fold min z (fun d : Fin n => if C d then d.val else n) = if (∃ d, C d) then first C else n := by
  by_cases h : ∃ d, C d
  · rw [if_pos h]
    obtain ⟨hl, hc⟩ := first_spec h
    apply le_antisymm
    · rw [Finset.fold_min_le]
      exact .inr ⟨⟨first C, hl⟩, Finset.mem_univ _, by rw [if_pos hc]⟩
    · rw [Finset.le_fold_min]
      refine ⟨le_trans hl.le hz, fun d _ => ?_⟩
      by_cases hd : C d
      · rw [if_pos hd]; exact first_le hd
      · rw [if_neg hd]; exact hl.le
  · rw [if_neg h]
    apply le_antisymm
    · rw [Finset.fold_min_le]
      exact .inr ⟨⟨0, hn⟩, Finset.mem_univ _, by rw [if_neg fun hc => h ⟨_, hc⟩]⟩
    · rw [Finset.le_fold_min]
      exact ⟨hz, fun d _ => by rw [if_neg fun hc => h ⟨d, hc⟩]⟩

/-- The word of the first position at which a bit is one, as the kernel computes it: the least selected index, and zero in
    place of the bound when nothing is selected. -/
theorem first_word (p : Fin 2048 → BitVec 1) :
    Scalar.select (IntOp.cmpi .eq (Finset.univ.fold IntOp.minsi 2147483647#32 fun d : Fin 2048 => Scalar.select (p d) (BitVec.ofNat 32 d.val) 2048#32) 2048#32) 0#32
        (Finset.univ.fold IntOp.minsi 2147483647#32 fun d : Fin 2048 => Scalar.select (p d) (BitVec.ofNat 32 d.val) 2048#32)
      = BitVec.ofNat 32 (first fun d => p d = 1#1) := by
  classical
  have e : (fun d : Fin 2048 => Scalar.select (p d) (BitVec.ofNat 32 d.val) 2048#32)
      = fun d => BitVec.ofNat 32 (if p d = 1#1 then d.val else 2048) := by
    funext d
    rw [select_eq]
    by_cases h : p d = 1#1
    · rw [if_pos h, if_pos h]
    · rw [if_neg h, if_neg h]
  rw [e, fold_minsi Finset.univ 2147483647 (by omega) _ (fun i => by split_ifs <;> omega),
    fold_first (fun d : Fin 2048 => p d = 1#1) 2147483647 (by omega) (by omega)]
  by_cases h : ∃ d, p d = 1#1
  · rw [if_pos h]
    have hl := (first_spec (C := fun d => p d = 1#1) h).1
    rw [show (2048#32) = BitVec.ofNat 32 2048 from rfl, cmpi_eq (by omega) (by omega), select_bit, if_neg (by omega)]
  · rw [if_neg h, show (2048#32) = BitVec.ofNat 32 2048 from rfl, cmpi_eq (by omega) (by omega), select_bit, if_pos rfl,
      first_none fun d hd => h ⟨d, hd⟩]

/-- A sum kept at one position only is the summand there. -/
theorem pick {m : ℕ} (hm : m < 2048) (f : Fin 2048 → EReal) :
    ∑ x : Fin 2048, Scalar.select (IntOp.cmpi .eq (BitVec.ofNat 32 x.val) (BitVec.ofNat 32 m)) (f x) 0 = f ⟨m, hm⟩ := by
  rw [Finset.sum_eq_single (⟨m, hm⟩ : Fin 2048)]
  · rw [cmpi_eq (by omega) (by omega), select_bit, if_pos rfl]
  · intro x _ hx
    rw [cmpi_eq (by omega) (by omega), select_bit, if_neg]
    intro h; exact hx (Fin.ext h)
  · intro h; exact absurd (Finset.mem_univ _) h

/-- The literal of a million. -/
theorem million : Ideal.ofBits .f32 0x49742400#32 = ((1000000 : ℝ) : EReal) := by
  simp [Ideal.ofBits, Ideal.ieee, -EReal.coe_mul]
  norm_num

end Cert.Proof.Words

end
-- ==== Proof.KernelPay.lean ====
/-
  The kernel's pieces over real inputs: the ranks, the next event times, the masses and moments, and the block written.
-/
module

public import proofs.«01_k».proof.Proof.KernelPieces
public import proofs.«01_k».proof.Proof.Words

@[expose] public section

set_option maxRecDepth 16384

noncomputable section

namespace Cert.Proof.Ker

open Cert.KernelIdeal Cert.KernelIdeal.Gen
open Idealize.ShloMosaic Idealize.ShloMosaic.TcCoe Idealize.ShloMosaic.Tactic Idealize.SL.Sem
open Cert.Proof.Spec

variable (i : grid0.Coords)

/-- The rows a trip of the ranking loop reads: row `r` of trip `k` is row `256 * k + r` of the whole. -/
theorem ld_row (hc : cond0_0 i) (x1 : Vec Ideal S2048x4 .f32) (k : Fin k0_t1_loop.trips) (r : Fin 256) (e : Fin 4) (h : 256 * k.val + r.val < 2048) :
    View.ld (Val := Elt Ideal) x1 (Rect.unit (s := S2048x4) (k0_off1 k) S256x4.size (k0_off1_inb i k hc)) (ix2 r e) = x1 (ix2 (⟨256 * k.val + r.val, h⟩ : Fin 2048) e) := by
  have e0 : (k0_off1 k) 0 = 256 * k.val := by rw [k0_off1_eq]; rfl
  have e1 : (k0_off1 k) 1 = 0 := by rw [k0_off1_eq]; rfl
  refine congrArg x1 (funext fun a => Fin.ext ?_)
  fin_cases a
  · show (k0_off1 k) 0 + 1 * r.val = 256 * k.val + r.val
    rw [Nat.one_mul]
    exact congrArg (· + r.val) e0
  · show (k0_off1 k) 1 + 1 * e.val = e.val
    rw [Nat.one_mul]
    exact (congrArg (· + e.val) e1).trans (Nat.zero_add _)

/-- One when event `m` is before event `j`, zero otherwise; zero past the last event. -/
def ahead (T : Fin 2048 → ℝ) (j : Fin 2048) (m : ℕ) : ℝ := if h : m < 2048 then (if before T ⟨m, h⟩ j then 1 else 0) else 0

/-- A trip of the ranking loop at event `j`: it adds the events of its 256 rows that are before `j`. -/
theorem pay4_at (x0 : Vec Ideal S1x1x2048 .f32) (T : Fin 2048 → ℝ) (h0 : ∀ j : Fin 2048, x0 (ix3 (0 : Fin 1) (0 : Fin 1) j) = ((T j : ℝ) : EReal))
    (k : Fin k0_t1_loop.trips) (acc : FVec Ideal S1x2048 .f32) (v : Vec Ideal S256x4 .f32)
    (hi : (i 0).val < 4)
    (hv : ∀ (r : Fin 256) (h : 256 * k.val + r.val < 2048), v (ix2 r (⟨(i 0).val, hi⟩ : Fin 4)) = ((T ⟨256 * k.val + r.val, h⟩ : ℝ) : EReal)) (j : Fin 2048) :
    k0_pay4 (F := Ideal) i x0 k acc v (ix2 (0 : Fin 1) j) = acc (ix2 (0 : Fin 1) j) + ∑ r : Fin 256, ((ahead T j (256 * k.val + r.val) : ℝ) : EReal) := by
  have hk : k.val < 8 := lt_of_lt_of_eq k.isLt trips1
  have reading : k0_pay4 (F := Ideal) i x0 k acc v (ix2 (0 : Fin 1) j) = acc (ix2 (0 : Fin 1) j) + ∑ x : Fin 256,
      (FloatOps.sitofp .f32 (BitVec.setWidth 32 (IntOp.ori
        (BitVec.ofBool (decide ((∑ y : Fin 4, Scalar.select (IntOp.cmpi .eq (BitVec.ofNat 32 y.val) (BitVec.ofNat 32 (i 0).val)) (v (ix2 x y) : EReal) 0) < x0 (ix3 (0 : Fin 1) (0 : Fin 1) j))))
        (IntOp.andi (BitVec.ofBool (decide ((∑ y : Fin 4, Scalar.select (IntOp.cmpi .eq (BitVec.ofNat 32 y.val) (BitVec.ofNat 32 (i 0).val)) (v (ix2 x y) : EReal) 0) = x0 (ix3 (0 : Fin 1) (0 : Fin 1) j))))
          (IntOp.cmpi .slt (IntOp.addi (BitVec.ofNat 32 x.val) (Scalar.muli (Scf.iv 0#32 1#32 k.val) 256#32)) (BitVec.ofNat 32 j.val))))) : Ideal .f32) := by
    pointwise [k0_pay4, k0_pay2]
  rw [reading]
  congr 1
  refine Finset.sum_congr rfl fun x _ => ?_
  have hx : 256 * k.val + x.val < 2048 := by omega
  rw [Words.column hi (fun y => (v (ix2 x y) : EReal)), hv x hx, h0, Words.trip_word, Words.cmpi_slt (by omega) (by omega), Words.andi_bit, Words.ori_bit, Words.sitofp_bit]
  unfold ahead
  rw [dif_pos hx]
  have e : ((T ⟨256 * k.val + x.val, hx⟩ : EReal) < (T j : EReal) ∨ (T ⟨256 * k.val + x.val, hx⟩ : EReal) = (T j : EReal) ∧ 256 * k.val + x.val < j.val)
      ↔ before T ⟨256 * k.val + x.val, hx⟩ j := by
    unfold before
    rw [EReal.coe_lt_coe_iff, EReal.coe_eq_coe_iff]
    exact Iff.rfl
  by_cases hb : before T ⟨256 * k.val + x.val, hx⟩ j
  · rw [if_pos hb, if_pos (e.mpr hb)]; rfl
  · rw [if_neg hb, if_neg (mt e.mp hb)]; rfl

section real
variable (hc : cond0_0 i) (x0 : Vec Ideal S1x1x2048 .f32) (x1 : Vec Ideal S2048x4 .f32) (T : Fin 2048 → ℝ)
  (h0 : ∀ j : Fin 2048, x0 (ix3 (0 : Fin 1) (0 : Fin 1) j) = ((T j : ℝ) : EReal))
  (hi : (i 0).val < 4) (h1 : ∀ j : Fin 2048, x1 (ix2 j (⟨(i 0).val, hi⟩ : Fin 4)) = ((T j : ℝ) : EReal))
include h0 h1

/-- Before trip `k` of the ranking loop the row counts, at event `j`, the events among the first `256 * k` that are before `j`. -/
theorem rankRow_at (j : Fin 2048) : ∀ k, k ≤ k0_t1_loop.trips →
    rankRow (F := Ideal) i hc x0 x1 k (ix2 (0 : Fin 1) j) = ((∑ m ∈ Finset.range (256 * k), ahead T j m : ℝ) : EReal)
  | 0, _ => by
    rw [Nat.mul_zero, Finset.sum_range_zero, EReal.coe_zero]
    show k0_pay3 (F := Ideal) (ix2 (0 : Fin 1) j) = 0
    pointwise [k0_pay3]
  | k + 1, hk => by
    have e : rankRow (F := Ideal) i hc x0 x1 (k + 1) = k0_pay4 i x0 ⟨k, hk⟩ (rankRow i hc x0 x1 k)
        (View.ld (Val := Elt Ideal) x1 (Rect.unit (s := S2048x4) (k0_off1 ⟨k, hk⟩) S256x4.size (k0_off1_inb i ⟨k, hk⟩ hc))) := dif_pos hk
    rw [e, pay4_at i x0 T h0 ⟨k, hk⟩ _ _ hi (fun r h => (ld_row i hc x1 ⟨k, hk⟩ r _ h).trans (h1 _)) j, rankRow_at j k (Nat.le_of_succ_le hk),
      ← coe_sum, ← EReal.coe_add, Nat.mul_succ, Finset.sum_range_add, Finset.sum_range (n := 256)]

/-- After the ranking loop the row holds the ranks. -/
theorem rankRow_end (j : Fin 2048) : rankRow (F := Ideal) i hc x0 x1 k0_t1_loop.trips (ix2 (0 : Fin 1) j) = (((rank T j : ℕ) : ℝ) : EReal) := by
  rw [rankRow_at i hc x0 x1 T h0 hi h1 j _ le_rfl, trips1, show 256 * 8 = 2048 from rfl, Finset.sum_range]
  congr 1
  unfold rank
  rw [← Finset.sum_boole]
  refine Finset.sum_congr rfl fun m _ => ?_
  unfold ahead
  rw [dif_pos m.isLt]

end real

/-- A rank compared with a position, as extended reals. -/
theorem rank_le (a d : ℕ) : (((a : ℕ) : ℝ) : EReal) ≤ (((d : ℕ) : ℝ) : EReal) ↔ a ≤ d := by
  rw [EReal.coe_le_coe_iff, Nat.cast_le]

section ranked
variable (x0 : Vec Ideal S1x1x2048 .f32) (T : Fin 2048 → ℝ)
  (h0 : ∀ j : Fin 2048, x0 (ix3 (0 : Fin 1) (0 : Fin 1) j) = ((T j : ℝ) : EReal))
  (R : FVec Ideal S1x2048 .f32) (hR : ∀ j : Fin 2048, R (ix2 (0 : Fin 1) j) = (((rank T j : ℕ) : ℝ) : EReal))
include hR

/-- The indicator matrix: one where the rank of event `j` is at most `d`. -/
theorem pay7_at (d j : Fin 2048) : k0_pay7 (F := Ideal) R (ix2 d j) = if rank T j ≤ d.val then 1 else 0 := by
  have reading : k0_pay7 (F := Ideal) R (ix2 d j) = (FloatOps.sitofp .f32 (BitVec.setWidth 32 (BitVec.ofBool (decide ((R (ix2 (0 : Fin 1) j) : EReal) ≤ (FloatOps.sitofp .f32 (BitVec.ofNat 32 d.val) : Ideal .f32))))) : Ideal .f32) := by
    pointwise [k0_pay7]
  rw [reading, Words.sitofp_bit, hR, Words.sitofp_nat (by omega)]
  exact if_congr (rank_le _ _) rfl rfl

include h0

/-- The column of next event times. -/
theorem nextCol_at (d : Fin 2048) : nextCol (F := Ideal) x0 R (ix2 d (0 : Fin 1)) = ((next T d.val : ℝ) : EReal) := by
  show k0_pay6 (F := Ideal) x0 R ⟨d.val / 256, _⟩ (ix2 (⟨d.val % 256, _⟩ : Fin 256) (0 : Fin 1)) = _
  have hk : d.val / 256 < k0_t2_loop.trips := by rw [trips2]; omega
  have hr : d.val % 256 < 256 := Nat.mod_lt _ (by decide)
  have reading : k0_pay6 (F := Ideal) x0 R ⟨d.val / 256, hk⟩ (ix2 (⟨d.val % 256, hr⟩ : Fin 256) (0 : Fin 1))
      = Scalar.select (IntOp.cmpi .eq (IntOp.addi (BitVec.ofNat 32 (d.val % 256)) (Scalar.muli (Scf.iv 0#32 1#32 (d.val / 256)) 256#32)) 2047#32) (Ideal.ofBits .f32 0x49742400#32)
        (∑ x : Fin 2048, if (R (ix2 (0 : Fin 1) x) : EReal) = (FloatOps.sitofp .f32 (IntOp.addi (IntOp.addi (BitVec.ofNat 32 (d.val % 256)) (Scalar.muli (Scf.iv 0#32 1#32 (d.val / 256)) 256#32)) 1#32) : Ideal .f32) then (x0 (ix3 (0 : Fin 1) (0 : Fin 1) x) : EReal) else 0) := by
    pointwise [k0_pay6, k0_pay2]
  rw [reading, Words.trip_word, Words.succ_word, Nat.div_add_mod, show (2047#32) = BitVec.ofNat 32 2047 from rfl, Words.cmpi_eq (by omega) (by omega), Words.select_bit, Words.million,
    Words.sitofp_nat (by omega)]
  unfold next
  by_cases hd : d.val = 2047
  · rw [if_pos hd, if_pos (by omega)]
  · rw [if_neg hd, if_neg (by omega), coe_sum]
    refine Finset.sum_congr rfl fun x _ => ?_
    rw [hR, h0]
    by_cases hx : rank T x = d.val + 1
    · rw [if_pos hx, if_pos (by rw [hx])]
    · rw [if_neg hx, if_neg (by rw [EReal.coe_eq_coe_iff, Nat.cast_inj]; exact hx), EReal.coe_zero]

end ranked

section sums
variable (T : Fin 2048 → ℝ) (W : Fin 2048 → Fin 512 → ℝ)
  (x2 : Vec Ideal S2048x512 .f32) (h2 : ∀ (j : Fin 2048) (q : Fin 512), x2 (ix2 j q) = ((W j q : ℝ) : EReal))
  (a : Vec Ideal S2048x2048 .bf16) (ha : ∀ d j : Fin 2048, a (ix2 d j) = if rank T j ≤ d.val then 1 else 0)
include h2 ha

/-- The masses: one plus the weights of the events of rank at most `d`. -/
theorem pay8_at (d : Fin 2048) (q : Fin 512) : k0_pay8 (F := Ideal) x2 a (ix2 d q) = ((mass T (fun j => W j q) d.val : ℝ) : EReal) := by
  have reading : k0_pay8 (F := Ideal) x2 a (ix2 d q) = (∑ j : Fin 2048, (a (ix2 d j) : EReal) * x2 (ix2 j q)) + (∑ j : Fin 2048, (a (ix2 d j) : EReal) * (x2 (ix2 j q) - x2 (ix2 j q))) + 1 := by
    pointwise [k0_pay8]
  rw [reading]
  unfold mass
  rw [EReal.coe_add, coe_sum, EReal.coe_one]
  refine congrArg (· + (1 : EReal)) ?_
  rw [Finset.sum_congr rfl (g := fun j => (((if rank T j ≤ d.val then W j q else 0 : ℝ)) : EReal)), Finset.sum_eq_zero (f := fun j : Fin 2048 => (a (ix2 d j) : EReal) * (x2 (ix2 j q) - x2 (ix2 j q))), add_zero]
  · intro j _
    rw [h2, ← EReal.coe_sub, sub_self, EReal.coe_zero, mul_zero]
  · intro j _
    rw [ha, h2]
    split_ifs
    · rw [one_mul]
    · rw [zero_mul, EReal.coe_zero]

/-- The bit of a positive mass. -/
theorem pay10_at (d : Fin 2048) (q : Fin 512) : k0_pay10 (F := Ideal) x2 a (ix2 d q) = BitVec.ofBool (decide ((0 : EReal) < ((mass T (fun j => W j q) d.val : ℝ) : EReal))) := by
  rw [← pay8_at T W x2 h2 a ha d q]
  pointwise [k0_pay10]

/-- The next event time times the mass. -/
theorem pay11_at (n : Vec Ideal S2048x1 .f32) (hn : ∀ d : Fin 2048, n (ix2 d (0 : Fin 1)) = ((next T d.val : ℝ) : EReal)) (d : Fin 2048) (q : Fin 512) :
    k0_pay11 (F := Ideal) x2 a n (ix2 d q) = ((next T d.val * mass T (fun j => W j q) d.val : ℝ) : EReal) := by
  have reading : k0_pay11 (F := Ideal) x2 a n (ix2 d q) = (n (ix2 d (0 : Fin 1)) : EReal) * k0_pay8 (F := Ideal) x2 a (ix2 d q) := by
    pointwise [k0_pay11]
  rw [reading, hn, pay8_at T W x2 h2 a ha d q, ← EReal.coe_mul]

/-- The moments: the weighted times of the events of rank at most `d`. -/
theorem pay9_at (x1 : Vec Ideal S2048x4 .f32) (hi : (i 0).val < 4) (h1 : ∀ j : Fin 2048, x1 (ix2 j (⟨(i 0).val, hi⟩ : Fin 4)) = ((T j : ℝ) : EReal)) (d : Fin 2048) (q : Fin 512) :
    k0_pay9 (F := Ideal) i x2 x1 a (ix2 d q) = ((moment T (fun j => W j q) d.val : ℝ) : EReal) := by
  have reading : k0_pay9 (F := Ideal) i x2 x1 a (ix2 d q)
      = (∑ j : Fin 2048, (a (ix2 d j) : EReal) * (x2 (ix2 j q) * ∑ y : Fin 4, Scalar.select (IntOp.cmpi .eq (BitVec.ofNat 32 y.val) (BitVec.ofNat 32 (i 0).val)) (x1 (ix2 j y) : EReal) 0))
        + ∑ j : Fin 2048, (a (ix2 d j) : EReal) * (x2 (ix2 j q) * (∑ y : Fin 4, Scalar.select (IntOp.cmpi .eq (BitVec.ofNat 32 y.val) (BitVec.ofNat 32 (i 0).val)) (x1 (ix2 j y) : EReal) 0)
            - x2 (ix2 j q) * ∑ y : Fin 4, Scalar.select (IntOp.cmpi .eq (BitVec.ofNat 32 y.val) (BitVec.ofNat 32 (i 0).val)) (x1 (ix2 j y) : EReal) 0) := by
    pointwise [k0_pay9]
  rw [reading]
  have hp : ∀ j : Fin 2048, (x2 (ix2 j q) : EReal) * (∑ y : Fin 4, Scalar.select (IntOp.cmpi .eq (BitVec.ofNat 32 y.val) (BitVec.ofNat 32 (i 0).val)) (x1 (ix2 j y) : EReal) 0) = ((W j q * T j : ℝ) : EReal) := by
    intro j
    rw [Words.column hi (fun y => (x1 (ix2 j y) : EReal)), h1, h2, ← EReal.coe_mul]
  simp only [hp]
  unfold moment
  rw [coe_sum, Finset.sum_congr rfl (g := fun j => (((if rank T j ≤ d.val then W j q * T j else 0 : ℝ)) : EReal)), Finset.sum_eq_zero (f := fun j : Fin 2048 => (a (ix2 d j) : EReal) * (((W j q * T j : ℝ) : EReal) - ((W j q * T j : ℝ) : EReal))), add_zero]
  · intro j _
    rw [← EReal.coe_sub, sub_self, EReal.coe_zero, mul_zero]
  · intro j _
    rw [ha]
    split_ifs
    · rw [one_mul]
    · rw [zero_mul, EReal.coe_zero]

/-- The block written: at each output the value computed from the times and that output's weights. -/
theorem pay1_at (x1 : Vec Ideal S2048x4 .f32) (hi : (i 0).val < 4) (h1 : ∀ j : Fin 2048, x1 (ix2 j (⟨(i 0).val, hi⟩ : Fin 4)) = ((T j : ℝ) : EReal))
    (n : Vec Ideal S2048x1 .f32) (hn : ∀ d : Fin 2048, n (ix2 d (0 : Fin 1)) = ((next T d.val : ℝ) : EReal)) (q : Fin 512) :
    k0_pay1 (F := Ideal) (k0_pay8 x2 a) (k0_pay9 i x2 x1 a) (k0_pay10 x2 a) (k0_pay11 x2 a n) (ix3 (0 : Fin 1) (0 : Fin 1) q) = value (by decide) T (fun j => W j q) := by
  generalize hm : k0_pay9 (F := Ideal) i x2 x1 a = m
  generalize hs : k0_pay8 (F := Ideal) x2 a = s
  generalize hpp : k0_pay10 (F := Ideal) x2 a = p
  generalize hts : k0_pay11 (F := Ideal) x2 a n = ts
  have reading : k0_pay1 (F := Ideal) s m p ts (ix3 (0 : Fin 1) (0 : Fin 1) q) = clip (Ideal.div
      (∑ x : Fin 2048, Scalar.select (IntOp.cmpi .eq (BitVec.ofNat 32 x.val) (Scalar.select (IntOp.cmpi .eq (Finset.univ.fold IntOp.minsi 2147483647#32 fun d : Fin 2048 => Scalar.select (IntOp.andi (p (ix2 d q)) (BitVec.ofBool (decide ((m (ix2 d q) : EReal) < ts (ix2 d q))))) (BitVec.ofNat 32 d.val) 2048#32) 2048#32) 0#32
        (Finset.univ.fold IntOp.minsi 2147483647#32 fun d : Fin 2048 => Scalar.select (IntOp.andi (p (ix2 d q)) (BitVec.ofBool (decide ((m (ix2 d q) : EReal) < ts (ix2 d q))))) (BitVec.ofNat 32 d.val) 2048#32))) (m (ix2 x q) : EReal) 0)
      (∑ x : Fin 2048, Scalar.select (IntOp.cmpi .eq (BitVec.ofNat 32 x.val) (Scalar.select (IntOp.cmpi .eq (Finset.univ.fold IntOp.minsi 2147483647#32 fun d : Fin 2048 => Scalar.select (IntOp.andi (p (ix2 d q)) (BitVec.ofBool (decide ((m (ix2 d q) : EReal) < ts (ix2 d q))))) (BitVec.ofNat 32 d.val) 2048#32) 2048#32) 0#32
        (Finset.univ.fold IntOp.minsi 2147483647#32 fun d : Fin 2048 => Scalar.select (IntOp.andi (p (ix2 d q)) (BitVec.ofBool (decide ((m (ix2 d q) : EReal) < ts (ix2 d q))))) (BitVec.ofNat 32 d.val) 2048#32))) (s (ix2 x q) : EReal) 0)) := by
    unfold clip
    pointwise [k0_pay1]
  rw [reading, Words.first_word (fun d : Fin 2048 => IntOp.andi (p (ix2 d q)) (BitVec.ofBool (decide ((m (ix2 d q) : EReal) < ts (ix2 d q)))))]
  have hf : (first fun d : Fin 2048 => IntOp.andi (p (ix2 d q)) (BitVec.ofBool (decide ((m (ix2 d q) : EReal) < ts (ix2 d q)))) = 1#1) = first (admissible T fun j => W j q) := by
    refine first_congr fun d => ?_
    rw [Words.andi_eq_one, ← hpp, ← hm, ← hts, pay10_at T W x2 h2 a ha, pay9_at i T W x2 h2 a ha x1 hi h1, pay11_at T W x2 h2 a ha n hn, Words.bit_eq_one, Words.bit_eq_one,
      EReal.coe_lt_coe_iff]
    unfold admissible
    rw [show (0 : EReal) = ((0 : ℝ) : EReal) from rfl, EReal.coe_lt_coe_iff]
  rw [hf]
  have hl : first (admissible T fun j => W j q) < 2048 := first_lt (by decide) _
  rw [Words.pick hl (fun x => (m (ix2 x q) : EReal)), Words.pick hl (fun x => (s (ix2 x q) : EReal)), ← hm, ← hs, pay9_at i T W x2 h2 a ha x1 hi h1, pay8_at T W x2 h2 a ha]
  rfl

end sums

end Cert.Proof.Ker

end
-- ==== Proof.KernelArray.lean ====
/-
  The kernel's run over real inputs: what each grid point reads and leaves, the array the points write, and the result.
-/
module

public import proofs.«01_k».proof.Proof.KernelPay

@[expose] public section

set_option maxRecDepth 16384

noncomputable section

namespace Cert.Proof.Ker

open Cert.KernelIdeal Cert.KernelIdeal.Gen
open Idealize.ShloMosaic Idealize.ShloMosaic.TcCoe Idealize.ShloMosaic.Tactic Idealize.SL.Sem
open Cert.Proof.Spec

variable (m : (ℓ : Loc nD τ sig) → Buf (Elt Ideal) ℓ) (ρ : Dev nD → PrngReg) (c : Dev nD)

/-- The first argument on core `c`. -/
abbrev arg0 : Vec Ideal S4x2048 .f32 := m ((c.tc : Thread nD τ).loc main_arg0)

/-- The second argument on core `c`. -/
abbrev arg1 : Vec Ideal S2048x2048 .f32 := m ((c.tc : Thread nD τ).loc main_arg1)

/-- The region finds the first argument with a middle axis of one. -/
theorem entry1 : (V m c main_v1 : Vec Ideal S4x1x2048 .f32) = broadcastInDim S4x1x2048 ![0, 2] bcast_S4x2048_S4x1x2048_0_2 (arg0 m c) := by
  show StableHlo.after (List.flatten [hostOps0]) (fun b => m (c, b)) (Proc.devRef .tc main_v1) = _
  rw [List.flatten_cons, List.flatten_nil, List.append_nil, hostOps0, StableHlo.after_cons, StableHlo.after_cons, StableHlo.after_nil,
    StableHlo.unary_result, StableHlo.unary_result_ne _ _ _ _ _ _ (by decide)]

/-- The region finds the first argument transposed. -/
theorem entry0 : (V m c main_v0 : Vec Ideal S2048x4 .f32) = transpose S2048x4 [1, 0] (arg0 m c) transposes_S4x2048_S2048x4_1_0 := by
  show StableHlo.after (List.flatten [hostOps0]) (fun b => m (c, b)) (Proc.devRef .tc main_v0) = _
  rw [List.flatten_cons, List.flatten_nil, List.append_nil, hostOps0, StableHlo.after_cons, StableHlo.after_cons, StableHlo.after_nil,
    StableHlo.unary_result_ne _ _ _ _ _ _ (by decide), StableHlo.unary_result]

/-- An entry of the widened argument. -/
theorem entry1_at (b : Fin 4) (j : Fin 2048) : (V m c main_v1 : Vec Ideal S4x1x2048 .f32) (ix3 b (0 : Fin 1) j) = arg0 m c (ix2 b j) := by
  rw [entry1]
  generalize arg0 m c = x
  pointwise

/-- An entry of the transposed argument. -/
theorem entry0_at (b : Fin 4) (j : Fin 2048) : (V m c main_v0 : Vec Ideal S2048x4 .f32) (ix2 j b) = arg0 m c (ix2 b j) := by
  rw [entry0]
  generalize arg0 m c = x
  pointwise

/-- The blocks of the windows at point `t`: batch `t / 4` and column tile `t % 4`. -/
theorem blocks_at : ∀ t : Fin cfg0.N,
    (win0_0.index t (0 : Fin 3) = t.val / 4 ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = t.val % 4)
    ∧ (win0_3.index t (0 : Fin 3) = t.val / 4 ∧ win0_3.index t (1 : Fin 3) = 0 ∧ win0_3.index t (2 : Fin 3) = t.val % 4) :=
  (by decide +kernel : ∀ t : Fin grid0.N, _)

theorem lt16 (t : Fin cfg0.N) : t.val < 16 := Nat.lt_of_lt_of_eq t.isLt N_0

/-- The batch of point `t`. -/
def batch (t : Fin cfg0.N) : Fin 4 := ⟨t.val / 4, by have := lt16 t; omega⟩

/-- The column of output `q` of point `t`. -/
def column (t : Fin cfg0.N) (q : Fin 512) : Fin 2048 := ⟨512 * (t.val % 4) + q.val, by omega⟩

/-- The first grid coordinate of point `t` is its batch. -/
theorem coord (t : Fin cfg0.N) : (grid0.coords t 0).val = (batch t).val := by
  have h : (grid0.coords t 0).val = t.val / 4 % 4 := Pipeline.Grid.coords_val t 0 (by decide) rfl
  have := lt16 t
  show _ = t.val / 4
  omega

/-- The block of times at point `t`: the row of its batch. -/
theorem iblk0_at (t : Fin cfg0.N) (j : Fin 2048) : (iblk m c 0 t : Vec Ideal S1x1x2048 .f32) (ix3 (0 : Fin 1) (0 : Fin 1) j) = arg0 m c (ix2 (batch t) j) := by
  obtain ⟨⟨e0, e1, e2⟩, -, -, -⟩ := blocks_at t
  rw [← entry1_at]
  show (V m c main_v1 : Vec Ideal S4x1x2048 .f32) (((cfg0.win 0).blk t).view.emb (ix3 (0 : Fin 1) (0 : Fin 1) j)) = _
  refine congrArg (V m c main_v1 : Vec Ideal S4x1x2048 .f32) (funext fun a => Fin.ext ?_)
  match a with
  | ⟨0, _⟩ => show win0_0.index t (0 : Fin 3) * 1 + 1 * 0 = t.val / 4; omega
  | ⟨1, _⟩ => show win0_0.index t (1 : Fin 3) * 1 + 1 * 0 = 0; omega
  | ⟨2, _⟩ => show win0_0.index t (2 : Fin 3) * 2048 + 1 * j.val = j.val; omega

/-- The block of transposed times at every point: the whole. -/
theorem iblk1_at (t : Fin cfg0.N) (j : Fin 2048) (b : Fin 4) : (iblk m c 1 t : Vec Ideal S2048x4 .f32) (ix2 j b) = arg0 m c (ix2 b j) := by
  obtain ⟨-, ⟨e0, e1⟩, -, -⟩ := blocks_at t
  rw [← entry0_at]
  show (V m c main_v0 : Vec Ideal S2048x4 .f32) (((cfg0.win 1).blk t).view.emb (ix2 j b)) = _
  refine congrArg (V m c main_v0 : Vec Ideal S2048x4 .f32) (funext fun a => Fin.ext ?_)
  match a with
  | ⟨0, _⟩ => show win0_1.index t (0 : Fin 2) * 2048 + 1 * j.val = j.val; omega
  | ⟨1, _⟩ => show win0_1.index t (1 : Fin 2) * 4 + 1 * b.val = b.val; omega

/-- The block of weights at point `t`: its 512 columns. -/
theorem iblk2_at (t : Fin cfg0.N) (j : Fin 2048) (q : Fin 512) : (iblk m c 2 t : Vec Ideal S2048x512 .f32) (ix2 j q) = arg1 m c (ix2 j (column t q)) := by
  obtain ⟨-, -, ⟨e0, e1⟩, -⟩ := blocks_at t
  have e : (V m c main_arg1 : Vec Ideal S2048x2048 .f32) = arg1 m c := V_main_arg1 m c
  rw [← e]
  show (V m c main_arg1 : Vec Ideal S2048x2048 .f32) (((cfg0.win 2).blk t).view.emb (ix2 j q)) = _
  refine congrArg (V m c main_arg1 : Vec Ideal S2048x2048 .f32) (funext fun a => Fin.ext ?_)
  match a with
  | ⟨0, _⟩ => show win0_2.index t (0 : Fin 2) * 2048 + 1 * j.val = j.val; omega
  | ⟨1, _⟩ => show win0_2.index t (1 : Fin 2) * 512 + 1 * q.val = 512 * (t.val % 4) + q.val; omega

section points
variable {F : FTy → Type} [FloatOps F] (m : (ℓ : Loc nD τ sig) → Buf (Elt F) ℓ) (c : Dev nD) (t : Fin cfg0.N)

/-- At the first tile of a batch the indicator matrix is made from the ranks. -/
theorem made2 (h0 : t.val % 4 = 0) : (outsAt0 m c t.val t.isLt).2.2 = k0_pay7 (F := F) (rankRow (F := F) (grid0.coords t) ((hcond0_0 t).mpr h0) (iblk m c 0 t) (iblk m c 1 t) k0_t1_loop.trips) := by
  rw [outsAt0_A m c t h0]
  have h := soutA2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (iblk m c 1 t) (iblk m c 2 t)
  dsimp only
  rw [h]

/-- At the first tile of a batch the next event times are made from the ranks. -/
theorem made1 (h0 : t.val % 4 = 0) : (outsAt0 m c t.val t.isLt).2.1 = nextCol (F := F) (iblk m c 0 t) (rankRow (F := F) (grid0.coords t) ((hcond0_0 t).mpr h0) (iblk m c 0 t) (iblk m c 1 t) k0_t1_loop.trips) := by
  rw [outsAt0_A m c t h0]
  have h := soutA1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (iblk m c 1 t) (iblk m c 2 t)
  dsimp only
  rw [h]

/-- At the first tile of a batch the output block is computed from what the point made. -/
theorem made0 (h0 : t.val % 4 = 0) : (outsAt0 m c t.val t.isLt).1 = k0_pay1 (F := F) (k0_pay8 (F := F) (iblk m c 2 t) (k0_pay7 (F := F) (rankRow (F := F) (grid0.coords t) ((hcond0_0 t).mpr h0) (iblk m c 0 t) (iblk m c 1 t) k0_t1_loop.trips)))
    (k0_pay9 (F := F) (grid0.coords t) (iblk m c 2 t) (iblk m c 1 t) (k0_pay7 (F := F) (rankRow (F := F) (grid0.coords t) ((hcond0_0 t).mpr h0) (iblk m c 0 t) (iblk m c 1 t) k0_t1_loop.trips)))
    (k0_pay10 (F := F) (iblk m c 2 t) (k0_pay7 (F := F) (rankRow (F := F) (grid0.coords t) ((hcond0_0 t).mpr h0) (iblk m c 0 t) (iblk m c 1 t) k0_t1_loop.trips)))
    (k0_pay11 (F := F) (iblk m c 2 t) (k0_pay7 (F := F) (rankRow (F := F) (grid0.coords t) ((hcond0_0 t).mpr h0) (iblk m c 0 t) (iblk m c 1 t) k0_t1_loop.trips)) (nextCol (F := F) (iblk m c 0 t) (rankRow (F := F) (grid0.coords t) ((hcond0_0 t).mpr h0) (iblk m c 0 t) (iblk m c 1 t) k0_t1_loop.trips))) := by
  rw [outsAt0_A m c t h0]
  have h := outA c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (iblk m c 1 t) (iblk m c 2 t)
  dsimp only
  rw [h]

/-- At a later tile both scratches are kept. -/
theorem kept (h0 : ¬t.val % 4 = 0) : (outsAt0 m c t.val t.isLt).2.2 = (outsAt0 m c (t.val - 1) (Nat.lt_of_le_of_lt (Nat.sub_le _ _) t.isLt)).2.2 ∧ (outsAt0 m c t.val t.isLt).2.1 = (outsAt0 m c (t.val - 1) (Nat.lt_of_le_of_lt (Nat.sub_le _ _) t.isLt)).2.1 := by
  rw [outsAt0_B m c t h0]
  exact ⟨rfl, rfl⟩

/-- At a later tile the output block is computed from what the point before left. -/
theorem kept0 (h0 : ¬t.val % 4 = 0) : (outsAt0 m c t.val t.isLt).1 = k0_pay1 (F := F) (k0_pay8 (F := F) (iblk m c 2 t) (outsAt0 m c (t.val - 1) (Nat.lt_of_le_of_lt (Nat.sub_le _ _) t.isLt)).2.2)
    (k0_pay9 (F := F) (grid0.coords t) (iblk m c 2 t) (iblk m c 1 t) (outsAt0 m c (t.val - 1) (Nat.lt_of_le_of_lt (Nat.sub_le _ _) t.isLt)).2.2)
    (k0_pay10 (F := F) (iblk m c 2 t) (outsAt0 m c (t.val - 1) (Nat.lt_of_le_of_lt (Nat.sub_le _ _) t.isLt)).2.2)
    (k0_pay11 (F := F) (iblk m c 2 t) (outsAt0 m c (t.val - 1) (Nat.lt_of_le_of_lt (Nat.sub_le _ _) t.isLt)).2.2 (outsAt0 m c (t.val - 1) (Nat.lt_of_le_of_lt (Nat.sub_le _ _) t.isLt)).2.1) := by
  rw [outsAt0_B m c t h0]
  have h := outB c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2
  dsimp only
  rw [h]

end points

section real
variable (T : Fin 4 → Fin 2048 → ℝ) (hT : ∀ (b : Fin 4) (j : Fin 2048), arg0 m c (ix2 b j) = ((T b j : ℝ) : EReal))
  (W : Fin 2048 → Fin 2048 → ℝ) (hW : ∀ j o : Fin 2048, arg1 m c (ix2 j o) = ((W j o : ℝ) : EReal))

include hT in
theorem x0_at (t : Fin cfg0.N) (j : Fin 2048) : (iblk m c 0 t : Vec Ideal S1x1x2048 .f32) (ix3 (0 : Fin 1) (0 : Fin 1) j) = ((T (batch t) j : ℝ) : EReal) :=
  (iblk0_at m c t j).trans (hT _ _)

theorem coord_lt (t : Fin cfg0.N) : (grid0.coords t 0).val < 4 := by rw [coord]; exact (batch t).isLt

include hT in
theorem x1_at (t : Fin cfg0.N) (j : Fin 2048) : (iblk m c 1 t : Vec Ideal S2048x4 .f32) (ix2 j (⟨(grid0.coords t 0).val, coord_lt t⟩ : Fin 4)) = ((T (batch t) j : ℝ) : EReal) := by
  rw [iblk1_at, show (⟨(grid0.coords t 0).val, coord_lt t⟩ : Fin 4) = batch t from Fin.ext (coord t), hT]

include hW in
theorem x2_at (t : Fin cfg0.N) (j : Fin 2048) (q : Fin 512) : (iblk m c 2 t : Vec Ideal S2048x512 .f32) (ix2 j q) = ((W j (column t q) : ℝ) : EReal) :=
  (iblk2_at m c t j q).trans (hW _ _)

include hT in
/-- The ranks a point at the first tile of a batch computes. -/
theorem ranks (t : Fin cfg0.N) (h0 : t.val % 4 = 0) (j : Fin 2048) :
    rankRow (F := Ideal) (grid0.coords t) ((hcond0_0 t).mpr h0) (iblk m c 0 t) (iblk m c 1 t) k0_t1_loop.trips (ix2 (0 : Fin 1) j) = (((rank (T (batch t)) j : ℕ) : ℝ) : EReal) :=
  rankRow_end (grid0.coords t) ((hcond0_0 t).mpr h0) (iblk m c 0 t) (iblk m c 1 t) _ (x0_at m c T hT t) (coord_lt t) (x1_at m c T hT t) j

include hT in
/-- What the carried scratches hold after a point at the first tile of a batch. -/
theorem carried_first (t : Fin cfg0.N) (h0 : t.val % 4 = 0) :
    (∀ d j : Fin 2048, ((outsAt0 m c t.val t.isLt).2.2 : Vec Ideal S2048x2048 .bf16) (ix2 d j) = if rank (T (batch t)) j ≤ d.val then 1 else 0)
      ∧ ∀ d : Fin 2048, ((outsAt0 m c t.val t.isLt).2.1 : Vec Ideal S2048x1 .f32) (ix2 d (0 : Fin 1)) = ((next (T (batch t)) d.val : ℝ) : EReal) := by
  rw [made2 m c t h0, made1 m c t h0]
  exact ⟨pay7_at (T (batch t)) _ (ranks m c T hT t h0), nextCol_at _ (T (batch t)) (x0_at m c T hT t) _ (ranks m c T hT t h0)⟩

include hT in
/-- What the carried scratches hold after every point: the indicator matrix and the next event times of the point's batch. -/
theorem carried (n : ℕ) : ∀ (t : Fin cfg0.N), t.val = n →
    (∀ d j : Fin 2048, ((outsAt0 m c t.val t.isLt).2.2 : Vec Ideal S2048x2048 .bf16) (ix2 d j) = if rank (T (batch t)) j ≤ d.val then 1 else 0)
      ∧ ∀ d : Fin 2048, ((outsAt0 m c t.val t.isLt).2.1 : Vec Ideal S2048x1 .f32) (ix2 d (0 : Fin 1)) = ((next (T (batch t)) d.val : ℝ) : EReal) := by
  induction n with
  | zero => exact fun t ht => carried_first m c T hT t (by rw [ht])
  | succ n ih =>
    intro t ht
    by_cases h0 : t.val % 4 = 0
    · exact carried_first m c T hT t h0
    · have hb : batch ⟨t.val - 1, Nat.lt_of_le_of_lt (Nat.sub_le _ _) t.isLt⟩ = batch t := Fin.ext (by show (t.val - 1) / 4 = t.val / 4; omega)
      have h := ih ⟨t.val - 1, Nat.lt_of_le_of_lt (Nat.sub_le _ _) t.isLt⟩ (by show t.val - 1 = n; omega)
      rw [hb] at h
      rw [(kept m c t h0).1, (kept m c t h0).2]
      exact h

include hT hW in
/-- What point `t` leaves in its output block: the value of each of its columns. -/
theorem written (t : Fin cfg0.N) (q : Fin 512) :
    ((outsAt0 m c t.val t.isLt).1 : Vec Ideal S1x1x512 .f32) (ix3 (0 : Fin 1) (0 : Fin 1) q) = value (by decide) (T (batch t)) (fun j => W j (column t q)) := by
  by_cases h0 : t.val % 4 = 0
  · rw [made0 m c t h0]
    exact pay1_at (grid0.coords t) (T (batch t)) (fun j q => W j (column t q)) (iblk m c 2 t) (x2_at m c W hW t) _ (pay7_at (T (batch t)) _ (ranks m c T hT t h0))
      (iblk m c 1 t) (coord_lt t) (x1_at m c T hT t) _ (nextCol_at _ (T (batch t)) (x0_at m c T hT t) _ (ranks m c T hT t h0)) q
  · have hb : batch ⟨t.val - 1, Nat.lt_of_le_of_lt (Nat.sub_le _ _) t.isLt⟩ = batch t := Fin.ext (by show (t.val - 1) / 4 = t.val / 4; omega)
    have h := carried m c T hT _ ⟨t.val - 1, Nat.lt_of_le_of_lt (Nat.sub_le _ _) t.isLt⟩ rfl
    rw [hb] at h
    rw [kept0 m c t h0]
    exact pay1_at (grid0.coords t) (T (batch t)) (fun j q => W j (column t q)) (iblk m c 2 t) (x2_at m c W hW t) _ h.1
      (iblk m c 1 t) (coord_lt t) (x1_at m c T hT t) _ h.2 q

/-- The array of values, with the kernel's middle axis of one. -/
def values (T : Fin 4 → Fin 2048 → ℝ) (W : Fin 2048 → Fin 2048 → ℝ) : Vec Ideal S4x1x2048 .f32 :=
  fun i => value (by decide : 0 < 2048) (T (i 0)) (fun j => W j (i 2))

include hT hW in
/-- A point writes back its block of that array. -/
theorem flushed_at (t : Fin cfg0.N) : (dats m 0 c).flushed 3 t = ((cfg0.win 3).blk t).view.read (Elt Ideal) (values T W) := by
  show (cfg0.win 3).cut (grid0.coords t) ((dats m 0 c).after 3 t) = _
  rw [after0_3]
  obtain ⟨-, -, -, ⟨e0, e1, e2⟩⟩ := blocks_at t
  funext y
  have hy0 : (y 0).val < 1 := (y 0).isLt
  have hy1 : (y 1).val < 1 := (y 1).isLt
  have hy2 : (y 2).val < 512 := (y 2).isLt
  have hx : (cfg0.win 3).xinj (grid0.coords t) y = ix3 (0 : Fin 1) (0 : Fin 1) (⟨(y 2).val, hy2⟩ : Fin 512) := by
    funext a
    refine Fin.ext ?_
    match a with
    | ⟨0, _⟩ => show (y 0).val = 0; omega
    | ⟨1, _⟩ => show (y 1).val = 0; omega
    | ⟨2, _⟩ => rfl
  show ((outsAt0 m c t.val t.isLt).1 : Vec Ideal S1x1x512 .f32) ((cfg0.win 3).xinj (grid0.coords t) y) = values T W (((cfg0.win 3).blk t).view.emb y)
  rw [hx, written m c T hT W hW t]
  have hb0 : ((cfg0.win 3).blk t).view.emb y 0 = batch t := Fin.ext (by
    show win0_3.index t (0 : Fin 3) * 1 + 1 * (y 0).val = t.val / 4
    omega)
  have hb2 : ((cfg0.win 3).blk t).view.emb y 2 = column t ⟨(y 2).val, hy2⟩ := Fin.ext (by
    show win0_3.index t (2 : Fin 3) * 512 + 1 * (y 2).val = 512 * (t.val % 4) + (y 2).val
    omega)
  show _ = value _ (T (((cfg0.win 3).blk t).view.emb y 0)) (fun j => W j (((cfg0.win 3).blk t).view.emb y 2))
  rw [hb0, hb2]

/-- Every index of the array is in the block of the point of its batch and column tile. -/
theorem covered (i : S4x1x2048.Idx) : ∃ t : Fin cfg0.N, (cfg0.win 3).flush t = true ∧ i ∈ ((cfg0.win 3).blk t).view.set := by
  have hi0 : (i 0).val < 4 := (i 0).isLt
  have hi1 : (i 1).val < 1 := (i 1).isLt
  have hi2 : (i 2).val < 2048 := (i 2).isLt
  have hN : 4 * (i 0).val + (i 2).val / 512 < cfg0.N := lt_of_lt_of_eq (by omega) N_0.symm
  refine ⟨⟨4 * (i 0).val + (i 2).val / 512, hN⟩, (by decide +kernel : ∀ t : Fin grid0.N, win0_3.flush t = true) _, ?_⟩
  obtain ⟨-, -, -, ⟨e0, e1, e2⟩⟩ := blocks_at ⟨4 * (i 0).val + (i 2).val / 512, hN⟩
  show i ∈ ((View.whole main_v2).slice (win0_3.rect ⟨4 * (i 0).val + (i 2).val / 512, hN⟩)).set
  rw [View.set_slice_whole, Rect.mem_set_unit]
  intro a
  match a with
  | ⟨0, _⟩ =>
    show win0_3.index _ (0 : Fin 3) * 1 ≤ (i 0).val ∧ (i 0).val < win0_3.index _ (0 : Fin 3) * 1 + 1
    rw [e0]; dsimp only; omega
  | ⟨1, _⟩ =>
    show win0_3.index _ (1 : Fin 3) * 1 ≤ (i 1).val ∧ (i 1).val < win0_3.index _ (1 : Fin 3) * 1 + 1
    rw [e1]; omega
  | ⟨2, _⟩ =>
    show win0_3.index _ (2 : Fin 3) * 512 ≤ (i 2).val ∧ (i 2).val < win0_3.index _ (2 : Fin 3) * 512 + 512
    rw [e2]; dsimp only; omega

include hT hW in
/-- The array after the run. -/
theorem array_end : (dats m 0 c).arrAt 3 cfg0.N = values T W :=
  (dats m 0 c).arrAt_eq_of_cover 3 _ (fun t _ => flushed_at m c T hT W hW t) covered

/-- The result: the array without its middle axis. -/
def result (T : Fin 4 → Fin 2048 → ℝ) (W : Fin 2048 → Fin 2048 → ℝ) : Vec Ideal S4x2048 .f32 :=
  fun i => value (by decide : 0 < 2048) (T (i 0)) (fun j => W j (i 1))

include hT hW in
/-- What the lines after the region leave in the result. -/
theorem tail_end : Pipeline.afterTail₀ cfgs (dats m) 0 (V0 m) [hostOps1] c main_v3 = result T W := by
  have e : Pipeline.withArrays spec0 c (V0 m c) (fun w => (dats m 0 c).arrAt w cfg0.N) (Proc.devRef .tc main_v2) = values T W :=
    (Pipeline.withArrays_arr spec0 winFacts0.arr_inj c (V0 m c) (fun w => (dats m 0 c).arrAt w cfg0.N) 3).trans (array_end m c T hT W hW)
  show StableHlo.after (List.flatten [hostOps1]) (Pipeline.withArrays spec0 c (V0 m c) (fun w => (dats m 0 c).arrAt w cfg0.N)) (Proc.devRef .tc main_v3) = _
  rw [List.flatten_cons, List.flatten_nil, List.append_nil, hostOps1, StableHlo.after_cons, StableHlo.after_nil, StableHlo.reshape_result, e]
  have key : shapeCast S4x2048 (values T W) shapeCasts_S4x1x2048_S4x2048 = result T W := by
    funext i
    obtain ⟨b, o, rfl⟩ : ∃ (b : Fin 4) (o : Fin 2048), i = ix2 b o := ⟨i 0, i 1, funext fun a => by match a with | ⟨0, _⟩ => rfl | ⟨1, _⟩ => rfl⟩
    have : ∀ x : Vec Ideal S4x1x2048 .f32, shapeCast S4x2048 x shapeCasts_S4x1x2048_S4x2048 (ix2 b o) = x (ix3 b (0 : Fin 1) o) := by
      intro x
      pointwise
    rw [this]
    rfl
  exact key

end real

/-- The kernel's run over real inputs: the result holds the values, and the arguments are unchanged. -/
theorem run (T : Dev nD → Fin 4 → Fin 2048 → ℝ) (hT : ∀ (c : Dev nD) (b : Fin 4) (j : Fin 2048), arg0 m c (ix2 b j) = ((T c b j : ℝ) : EReal))
    (W : Dev nD → Fin 2048 → Fin 2048 → ℝ) (hW : ∀ (c : Dev nD) (j o : Fin 2048), arg1 m c (ix2 j o) = ((W c j o : ℝ) : EReal)) :
    θ_run defs (onTc (τ := τ) (main (F := Ideal))) ⟨m, fun _ => 0, ρ⟩ (fun r => ∀ c : Dev nD,
      r.2.mem ((c.tc : Thread nD τ).loc main_v3) = result (T c) (W c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).2 main_v3 (Pipeline.mem_restRefs_of main_v3 (by decide) (by decide))).trans (tail_end m c (T c) (hT c) (W c) (hW c)), h.2 c⟩)
    (θ_run_and (run_main m ρ) (unchanged m ρ))

end Cert.Proof.Ker

end
-- ==== Proof.RefRun.lean ====
/-
  The run of the reference function, which is a straight line of host operations: the operations in four stretches, what
  each stretch leaves in the buffers the next one reads, and the whole run — the result buffer ends at `out` of the two
  arguments, which keep their contents.
-/
module

public import proofs.«01_k».proof.Proof.Gen.ReferenceIdeal
public import Idealize.ShloMosaic.Lib.StableHlo.Run
public import Idealize.ShloMosaic.Lib.Quiescent

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The sorted times with one more column after the last. -/
def appendLast : (⟨S4x2048x1, .f32⟩ : BufTy).Contents (Elt F) → (⟨S4x1x1, .f32⟩ : BufTy).Contents (Elt F) → (⟨S4x2049x1, .f32⟩ : BufTy).Contents (Elt F) :=
  fun a b => concatenate S4x2049x1 1 [⟨S4x2048x1, a⟩, ⟨S4x1x1, b⟩] concatenates_S4x2048x1_S4x1x1_S4x2049x1_d1

/-- The operations of the stretch: sorting, and gathering the weight rows in spike order. -/
abbrev sortOps : List (HloOp τ sig (Elt F)) :=
  [ nullary main_cst (constant S_ .f32 0x3F800000#32),
    unary main_cst main_v0 (broadcastInDim S2048 ![] bcast_S_S2048 : (⟨S_, .f32⟩ : BufTy).Contents (Elt F) → (⟨S2048, .f32⟩ : BufTy).Contents (Elt F)),
    nullary main_cst_0 (constant S_ .f32 0x00000000#32),
    unary main_cst_0 main_v1 (broadcastInDim S2048 ![] bcast_S_S2048 : (⟨S_, .f32⟩ : BufTy).Contents (Elt F) → (⟨S2048, .f32⟩ : BufTy).Contents (Elt F)),
    TRef.nullary (TRef.of (T := ⟨S4x2048, .i32⟩) main_call0_v0) (iotaInDim S4x2048 32 1),
    TRef.binary (TRef.of (T := ⟨S4x2048, .f32⟩) main_arg0) (TRef.of (T := ⟨S4x2048, .i32⟩) main_call0_v0) (TRef.of (T := ⟨S4x2048, .f32⟩) main_call0_v1_0) (fun x y => (Host.sort2 S4x2048 1 comparator_f32_i32_d1 x y).1),
    TRef.binary (TRef.of (T := ⟨S4x2048, .f32⟩) main_arg0) (TRef.of (T := ⟨S4x2048, .i32⟩) main_call0_v0) (TRef.of (T := ⟨S4x2048, .i32⟩) main_v2) (fun x y => (Host.sort2 S4x2048 1 comparator_f32_i32_d1 x y).2),
    TRef.unary (TRef.of (T := ⟨S4x2048, .f32⟩) main_arg0) (TRef.of (T := ⟨S4x2048, .f32⟩) main_v3) (fun x => Host.sort S4x2048 1 comparator_f32_d1 x),
    unary main_v3 main_v4 (broadcastInDim S4x2048x1 ![0, 1] bcast_S4x2048_S4x2048x1_0_1 : (⟨S4x2048, .f32⟩ : BufTy).Contents (Elt F) → (⟨S4x2048x1, .f32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S4x2048, .i32⟩) main_call2_v0) (broadcastInDim S4x2048 ![] bcast_S_S4x2048),
    TRef.binary (TRef.of (T := ⟨S4x2048, .i32⟩) main_v2) (TRef.of (T := ⟨S4x2048, .i32⟩) main_call2_v0) (TRef.of (T := ⟨S4x2048, .i1⟩) main_call2_v1) (cmpi .slt),
    TRef.nullary (TRef.of (T := ⟨S_, .i32⟩) main_call2_c_0) (constantI S_ 32 2048#32),
    TRef.unary (TRef.of (T := ⟨S_, .i32⟩) main_call2_c_0) (TRef.of (T := ⟨S4x2048, .i32⟩) main_call2_v2) (broadcastInDim S4x2048 ![] bcast_S_S4x2048),
    TRef.binary (TRef.of (T := ⟨S4x2048, .i32⟩) main_v2) (TRef.of (T := ⟨S4x2048, .i32⟩) main_call2_v2) (TRef.of (T := ⟨S4x2048, .i32⟩) main_call2_v3) addi,
    TRef.ternary (TRef.of (T := ⟨S4x2048, .i1⟩) main_call2_v1) (TRef.of (T := ⟨S4x2048, .i32⟩) main_call2_v3) (TRef.of (T := ⟨S4x2048, .i32⟩) main_v2) (TRef.of (T := ⟨S4x2048, .i32⟩) main_call2_v4) select,
    TRef.unary (TRef.of (T := ⟨S4x2048, .i32⟩) main_call2_v4) (TRef.of (T := ⟨S4x2048x1, .i32⟩) main_call2_v5) (broadcastInDim S4x2048x1 ![0, 1] bcast_S4x2048_S4x2048x1_0_1),
    TRef.nullary (TRef.of (T := ⟨S1, .i32⟩) main_call2_c_1) (constantI S1 32 2047#32),
    TRef.nullary (TRef.of (T := ⟨S_, .i32⟩) main_call2_c_2) (constantI S_ 32 0#32),
    TRef.unary (TRef.of (T := ⟨S_, .i32⟩) main_call2_c_2) (TRef.of (T := ⟨S4x2048x1, .i32⟩) main_call2_v6) (broadcastInDim S4x2048x1 ![] bcast_S_S4x2048x1),
    TRef.binary (TRef.of (T := ⟨S4x2048x1, .i32⟩) main_call2_v5) (TRef.of (T := ⟨S4x2048x1, .i32⟩) main_call2_v6) (TRef.of (T := ⟨S4x2048x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S4x2048x1, .i32⟩) main_call2_v9) (broadcastInDim S4x2048x1 ![0, 1, 2] bcast_S1x1x1_S4x2048x1_0_1_2),
    TRef.binary (TRef.of (T := ⟨S4x2048x1, .i32⟩) main_call2_v5) (TRef.of (T := ⟨S4x2048x1, .i32⟩) main_call2_v9) (TRef.of (T := ⟨S4x2048x1, .i1⟩) main_call2_v10) (cmpi .sle),
    TRef.binary (TRef.of (T := ⟨S4x2048x1, .i1⟩) main_call2_v7) (TRef.of (T := ⟨S4x2048x1, .i1⟩) main_call2_v10) (TRef.of (T := ⟨S4x2048x1, .i1⟩) main_call2_v11) andi,
    TRef.nullary (TRef.of (T := ⟨S_, .i1⟩) main_call2_c_3) (constantI S_ 1 1#1),
    TRef.binary (TRef.of (T := ⟨S4x2048x1, .i1⟩) main_call2_v11) (TRef.of (T := ⟨S_, .i1⟩) main_call2_c_3) (TRef.of (T := ⟨S4x2048, .i1⟩) main_call2_v12) (fun x v => Host.reduce IntOp.andi x v reducesTo_S4x2048x1_S4x2048_d2 h_S_),
    TRef.binary (TRef.of (T := ⟨S2048x2048, .f32⟩) main_arg1) (TRef.of (T := ⟨S4x2048x1, .i32⟩) main_call2_v5) (TRef.of (T := ⟨S4x2048x2048, .f32⟩) main_call2_v13) (fun x i => Host.gather gather_S2048x2048_S4x2048x1_S4x2048x2048_2_0_n_n_0_2_12048 x i),
    TRef.unary (TRef.of (T := ⟨S4x2048, .i1⟩) main_call2_v12) (TRef.of (T := ⟨S4x2048x2048, .i1⟩) main_call2_v14) (broadcastInDim S4x2048x2048 ![0, 1] bcast_S4x2048_S4x2048x2048_0_1),
    TRef.nullary (TRef.of (T := ⟨S_, .f32⟩) main_call2_cst) (constant S_ .f32 0x7FC00000#32),
    TRef.unary (TRef.of (T := ⟨S_, .f32⟩) main_call2_cst) (TRef.of (T := ⟨S4x2048x2048, .f32⟩) main_call2_v15) (broadcastInDim S4x2048x2048 ![] bcast_S_S4x2048x2048),
    TRef.ternary (TRef.of (T := ⟨S4x2048x2048, .i1⟩) main_call2_v14) (TRef.of (T := ⟨S4x2048x2048, .f32⟩) main_call2_v13) (TRef.of (T := ⟨S4x2048x2048, .f32⟩) main_call2_v15) (TRef.of (T := ⟨S4x2048x2048, .f32⟩) main_v5) select ]

/-- The operations of the stretch: the running sums and the candidate times. -/
abbrev sumOps : List (HloOp τ sig (Elt F)) :=
  [ unary main_v4 main_v6 (broadcastInDim S4x2048x2048 ![0, 1, 2] bcast_S4x2048x1_S4x2048x2048_0_1_2 : (⟨S4x2048x1, .f32⟩ : BufTy).Contents (Elt F) → (⟨S4x2048x2048, .f32⟩ : BufTy).Contents (Elt F)),
    binary main_v5 main_v6 main_v7 (mulf : (⟨S4x2048x2048, .f32⟩ : BufTy).Contents (Elt F) → (⟨S4x2048x2048, .f32⟩ : BufTy).Contents (Elt F) → (⟨S4x2048x2048, .f32⟩ : BufTy).Contents (Elt F)),
    TRef.nullary (TRef.of (T := ⟨S_, .f32⟩) main_call3_call0_cst) (constant S_ .f32 0x00000000#32),
    TRef.unary (TRef.of (T := ⟨S_, .f32⟩) main_call3_call0_cst) (TRef.of (T := ⟨S_, .f32⟩) main_call3_call0_v0) (broadcastInDim S_ ![] bcast_S_S_),
    TRef.binary (TRef.of (T := ⟨S4x2048x2048, .f32⟩) main_v7) (TRef.of (T := ⟨S_, .f32⟩) main_call3_call0_v0) (TRef.of (T := ⟨S4x2048x2048, .f32⟩) main_v8) (fun x v => Host.reduceWindowAdd ![1, 2048, 1] ![1, 1, 1] ![0, 2047, 0] ![0, 0, 0] x v reduceWindows_S4x2048x2048_S4x2048x2048_w1s1p0_0_w2048s1p2047_0_w1s1p0_0 h_S_),
    TRef.nullary (TRef.of (T := ⟨S_, .f32⟩) main_call4_call0_cst) (constant S_ .f32 0x00000000#32),
    TRef.unary (TRef.of (T := ⟨S_, .f32⟩) main_call4_call0_cst) (TRef.of (T := ⟨S_, .f32⟩) main_call4_call0_v0) (broadcastInDim S_ ![] bcast_S_S_),
    TRef.binary (TRef.of (T := ⟨S4x2048x2048, .f32⟩) main_v5) (TRef.of (T := ⟨S_, .f32⟩) main_call4_call0_v0) (TRef.of (T := ⟨S4x2048x2048, .f32⟩) main_v9) (fun x v => Host.reduceWindowAdd ![1, 2048, 1] ![1, 1, 1] ![0, 2047, 0] ![0, 0, 0] x v reduceWindows_S4x2048x2048_S4x2048x2048_w1s1p0_0_w2048s1p2047_0_w1s1p0_0 h_S_),
    unary main_v1 main_v10 (broadcastInDim S1x1x2048 ![2] bcast_S2048_S1x1x2048_2 : (⟨S2048, .f32⟩ : BufTy).Contents (Elt F) → (⟨S1x1x2048, .f32⟩ : BufTy).Contents (Elt F)),
    unary main_v10 main_v11 (broadcastInDim S4x2048x2048 ![0, 1, 2] bcast_S1x1x2048_S4x2048x2048_0_1_2 : (⟨S1x1x2048, .f32⟩ : BufTy).Contents (Elt F) → (⟨S4x2048x2048, .f32⟩ : BufTy).Contents (Elt F)),
    binary main_v8 main_v11 main_v12 (addf : (⟨S4x2048x2048, .f32⟩ : BufTy).Contents (Elt F) → (⟨S4x2048x2048, .f32⟩ : BufTy).Contents (Elt F) → (⟨S4x2048x2048, .f32⟩ : BufTy).Contents (Elt F)),
    nullary main_cst_1 (constant S_ .f32 0x00000000#32),
    unary main_cst_1 main_v13 (broadcastInDim S2048 ![] bcast_S_S2048 : (⟨S_, .f32⟩ : BufTy).Contents (Elt F) → (⟨S2048, .f32⟩ : BufTy).Contents (Elt F)),
    binary main_v0 main_v13 main_v14 (mulf : (⟨S2048, .f32⟩ : BufTy).Contents (Elt F) → (⟨S2048, .f32⟩ : BufTy).Contents (Elt F) → (⟨S2048, .f32⟩ : BufTy).Contents (Elt F)),
    unary main_v14 main_v15 (broadcastInDim S1x1x2048 ![2] bcast_S2048_S1x1x2048_2 : (⟨S2048, .f32⟩ : BufTy).Contents (Elt F) → (⟨S1x1x2048, .f32⟩ : BufTy).Contents (Elt F)),
    unary main_v15 main_v16 (broadcastInDim S4x2048x2048 ![0, 1, 2] bcast_S1x1x2048_S4x2048x2048_0_1_2 : (⟨S1x1x2048, .f32⟩ : BufTy).Contents (Elt F) → (⟨S4x2048x2048, .f32⟩ : BufTy).Contents (Elt F)),
    binary main_v12 main_v16 main_v17 (addf : (⟨S4x2048x2048, .f32⟩ : BufTy).Contents (Elt F) → (⟨S4x2048x2048, .f32⟩ : BufTy).Contents (Elt F) → (⟨S4x2048x2048, .f32⟩ : BufTy).Contents (Elt F)),
    unary main_v0 main_v18 (broadcastInDim S1x1x2048 ![2] bcast_S2048_S1x1x2048_2 : (⟨S2048, .f32⟩ : BufTy).Contents (Elt F) → (⟨S1x1x2048, .f32⟩ : BufTy).Contents (Elt F)),
    unary main_v18 main_v19 (broadcastInDim S4x2048x2048 ![0, 1, 2] bcast_S1x1x2048_S4x2048x2048_0_1_2 : (⟨S1x1x2048, .f32⟩ : BufTy).Contents (Elt F) → (⟨S4x2048x2048, .f32⟩ : BufTy).Contents (Elt F)),
    binary main_v9 main_v19 main_v20 (addf : (⟨S4x2048x2048, .f32⟩ : BufTy).Contents (Elt F) → (⟨S4x2048x2048, .f32⟩ : BufTy).Contents (Elt F) → (⟨S4x2048x2048, .f32⟩ : BufTy).Contents (Elt F)),
    binary main_v17 main_v20 main_v21 (Host.divf : (⟨S4x2048x2048, .f32⟩ : BufTy).Contents (Elt F) → (⟨S4x2048x2048, .f32⟩ : BufTy).Contents (Elt F) → (⟨S4x2048x2048, .f32⟩ : BufTy).Contents (Elt F)) ]

/-- The operations of the stretch: which candidate times are valid, and the first of them. -/
abbrev validOps : List (HloOp τ sig (Elt F)) :=
  [ nullary main_cst_2 (constant S_ .f32 0x49742400#32),
    unary main_cst_2 main_v22 (broadcastInDim S4x1x1 ![] bcast_S_S4x1x1 : (⟨S_, .f32⟩ : BufTy).Contents (Elt F) → (⟨S4x1x1, .f32⟩ : BufTy).Contents (Elt F)),
    binary main_v4 main_v22 main_v23 (appendLast (F := F)),
    unary main_v23 main_v24 ((extractStridedSlice S4x2048x1 ![0, 1, 0] · slices_S4x2049x1_S4x2048x1_0_1_0) : (⟨S4x2049x1, .f32⟩ : BufTy).Contents (Elt F) → (⟨S4x2048x1, .f32⟩ : BufTy).Contents (Elt F)),
    unary main_v24 main_v25 (broadcastInDim S4x2048x2048 ![0, 1, 2] bcast_S4x2048x1_S4x2048x2048_0_1_2 : (⟨S4x2048x1, .f32⟩ : BufTy).Contents (Elt F) → (⟨S4x2048x2048, .f32⟩ : BufTy).Contents (Elt F)),
    binary main_v21 main_v25 main_v26 (cmpf .olt : (⟨S4x2048x2048, .f32⟩ : BufTy).Contents (Elt F) → (⟨S4x2048x2048, .f32⟩ : BufTy).Contents (Elt F) → (⟨S4x2048x2048, .i1⟩ : BufTy).Contents (Elt F)),
    unary main_v26 main_v27 (uitofp .f32 : (⟨S4x2048x2048, .i1⟩ : BufTy).Contents (Elt F) → (⟨S4x2048x2048, .f32⟩ : BufTy).Contents (Elt F)),
    unary main_v0 main_v28 (broadcastInDim S1x1x2048 ![2] bcast_S2048_S1x1x2048_2 : (⟨S2048, .f32⟩ : BufTy).Contents (Elt F) → (⟨S1x1x2048, .f32⟩ : BufTy).Contents (Elt F)),
    unary main_v28 main_v29 (broadcastInDim S4x2048x2048 ![0, 1, 2] bcast_S1x1x2048_S4x2048x2048_0_1_2 : (⟨S1x1x2048, .f32⟩ : BufTy).Contents (Elt F) → (⟨S4x2048x2048, .f32⟩ : BufTy).Contents (Elt F)),
    binary main_v9 main_v29 main_v30 (addf : (⟨S4x2048x2048, .f32⟩ : BufTy).Contents (Elt F) → (⟨S4x2048x2048, .f32⟩ : BufTy).Contents (Elt F) → (⟨S4x2048x2048, .f32⟩ : BufTy).Contents (Elt F)),
    nullary main_cst_3 (constant S_ .f32 0x00000000#32),
    unary main_cst_3 main_v31 (broadcastInDim S4x2048x2048 ![] bcast_S_S4x2048x2048 : (⟨S_, .f32⟩ : BufTy).Contents (Elt F) → (⟨S4x2048x2048, .f32⟩ : BufTy).Contents (Elt F)),
    binary main_v30 main_v31 main_v32 (cmpf .ogt : (⟨S4x2048x2048, .f32⟩ : BufTy).Contents (Elt F) → (⟨S4x2048x2048, .f32⟩ : BufTy).Contents (Elt F) → (⟨S4x2048x2048, .i1⟩ : BufTy).Contents (Elt F)),
    unary main_v32 main_v33 (uitofp .f32 : (⟨S4x2048x2048, .i1⟩ : BufTy).Contents (Elt F) → (⟨S4x2048x2048, .f32⟩ : BufTy).Contents (Elt F)),
    binary main_v27 main_v33 main_v34 (mulf : (⟨S4x2048x2048, .f32⟩ : BufTy).Contents (Elt F) → (⟨S4x2048x2048, .f32⟩ : BufTy).Contents (Elt F) → (⟨S4x2048x2048, .f32⟩ : BufTy).Contents (Elt F)),
    TRef.nullary (TRef.of (T := ⟨S4x2048x2048, .i32⟩) main_call5_v0) (iotaInDim S4x2048x2048 32 1),
    TRef.nullary (TRef.of (T := ⟨S_, .f32⟩) main_call5_cst) (constant S_ .f32 0xFF800000#32),
    TRef.nullary (TRef.of (T := ⟨S_, .i32⟩) main_call5_c) (constantI S_ 32 0#32),
    TRef.quaternary (TRef.of (T := ⟨S4x2048x2048, .f32⟩) main_v34) (TRef.of (T := ⟨S4x2048x2048, .i32⟩) main_call5_v0) (TRef.of (T := ⟨S_, .f32⟩) main_call5_cst) (TRef.of (T := ⟨S_, .i32⟩) main_call5_c) (TRef.of (T := ⟨S4x2048, .f32⟩) main_call5_v1_0) (fun x y u v j => (Host.argReduce reducer_argmax_f32_i32 x y u v reducesTo_S4x2048x2048_S4x2048_d1 h_S_ j).1),
    TRef.quaternary (TRef.of (T := ⟨S4x2048x2048, .f32⟩) main_v34) (TRef.of (T := ⟨S4x2048x2048, .i32⟩) main_call5_v0) (TRef.of (T := ⟨S_, .f32⟩) main_call5_cst) (TRef.of (T := ⟨S_, .i32⟩) main_call5_c) (TRef.of (T := ⟨S4x2048, .i32⟩) main_v35) (fun x y u v j => (Host.argReduce reducer_argmax_f32_i32 x y u v reducesTo_S4x2048x2048_S4x2048_d1 h_S_ j).2) ]

/-- The operations of the stretch: picking that time and the cut at the end. -/
abbrev pickOps : List (HloOp τ sig (Elt F)) :=
  [ unary main_v21 main_v36 ((transpose S4x2048x2048 [0, 2, 1] · transposes_S4x2048x2048_S4x2048x2048_0_2_1) : (⟨S4x2048x2048, .f32⟩ : BufTy).Contents (Elt F) → (⟨S4x2048x2048, .f32⟩ : BufTy).Contents (Elt F)),
    unary main_v35 main_v37 (broadcastInDim S4x2048x1 ![0, 1] bcast_S4x2048_S4x2048x1_0_1 : (⟨S4x2048, .i32⟩ : BufTy).Contents (Elt F) → (⟨S4x2048x1, .i32⟩ : BufTy).Contents (Elt F)),
    TRef.nullary (TRef.of (T := ⟨S_, .i32⟩) main_call6_c) (constantI S_ 32 0#32),
    TRef.unary (TRef.of (T := ⟨S_, .i32⟩) main_call6_c) (TRef.of (T := ⟨S4x2048x1, .i32⟩) main_call6_v0) (broadcastInDim S4x2048x1 ![] bcast_S_S4x2048x1),
    TRef.binary (TRef.of (T := ⟨S4x2048x1, .i32⟩) main_v37) (TRef.of (T := ⟨S4x2048x1, .i32⟩) main_call6_v0) (TRef.of (T := ⟨S4x2048x1, .i1⟩) main_call6_v1) (cmpi .slt),
    TRef.nullary (TRef.of (T := ⟨S_, .i32⟩) main_call6_c_0) (constantI S_ 32 2048#32),
    TRef.unary (TRef.of (T := ⟨S_, .i32⟩) main_call6_c_0) (TRef.of (T := ⟨S4x2048x1, .i32⟩) main_call6_v2) (broadcastInDim S4x2048x1 ![] bcast_S_S4x2048x1),
    TRef.binary (TRef.of (T := ⟨S4x2048x1, .i32⟩) main_v37) (TRef.of (T := ⟨S4x2048x1, .i32⟩) main_call6_v2) (TRef.of (T := ⟨S4x2048x1, .i32⟩) main_call6_v3) addi,
    TRef.ternary (TRef.of (T := ⟨S4x2048x1, .i1⟩) main_call6_v1) (TRef.of (T := ⟨S4x2048x1, .i32⟩) main_call6_v3) (TRef.of (T := ⟨S4x2048x1, .i32⟩) main_v37) (TRef.of (T := ⟨S4x2048x1, .i32⟩) main_call6_v4) select,
    TRef.reshape (TRef.of (T := ⟨S4x2048x1, .i32⟩) main_call6_v4) (TRef.of (T := ⟨S4x2048x1x1, .i32⟩) main_call6_v5) (rfl : (.i32 : EltTy) = .i32) shapeCasts_S4x2048x1_S4x2048x1x1,
    TRef.nullary (TRef.of (T := ⟨S1, .i32⟩) main_call6_c_1) (constantI S1 32 2047#32),
    TRef.nullary (TRef.of (T := ⟨S_, .i32⟩) main_call6_c_2) (constantI S_ 32 0#32),
    TRef.unary (TRef.of (T := ⟨S_, .i32⟩) main_call6_c_2) (TRef.of (T := ⟨S4x2048x1x1, .i32⟩) main_call6_v6) (broadcastInDim S4x2048x1x1 ![] bcast_S_S4x2048x1x1),
    TRef.binary (TRef.of (T := ⟨S4x2048x1x1, .i32⟩) main_call6_v5) (TRef.of (T := ⟨S4x2048x1x1, .i32⟩) main_call6_v6) (TRef.of (T := ⟨S4x2048x1x1, .i1⟩) main_call6_v7) (cmpi .sge),
    TRef.unary (TRef.of (T := ⟨S1, .i32⟩) main_call6_c_1) (TRef.of (T := ⟨S1x1x1x1, .i32⟩) main_call6_v8) (broadcastInDim S1x1x1x1 ![3] bcast_S1_S1x1x1x1_3),
    TRef.unary (TRef.of (T := ⟨S1x1x1x1, .i32⟩) main_call6_v8) (TRef.of (T := ⟨S4x2048x1x1, .i32⟩) main_call6_v9) (broadcastInDim S4x2048x1x1 ![0, 1, 2, 3] bcast_S1x1x1x1_S4x2048x1x1_0_1_2_3),
    TRef.binary (TRef.of (T := ⟨S4x2048x1x1, .i32⟩) main_call6_v5) (TRef.of (T := ⟨S4x2048x1x1, .i32⟩) main_call6_v9) (TRef.of (T := ⟨S4x2048x1x1, .i1⟩) main_call6_v10) (cmpi .sle),
    TRef.binary (TRef.of (T := ⟨S4x2048x1x1, .i1⟩) main_call6_v7) (TRef.of (T := ⟨S4x2048x1x1, .i1⟩) main_call6_v10) (TRef.of (T := ⟨S4x2048x1x1, .i1⟩) main_call6_v11) andi,
    TRef.nullary (TRef.of (T := ⟨S_, .i1⟩) main_call6_c_3) (constantI S_ 1 1#1),
    TRef.binary (TRef.of (T := ⟨S4x2048x1x1, .i1⟩) main_call6_v11) (TRef.of (T := ⟨S_, .i1⟩) main_call6_c_3) (TRef.of (T := ⟨S4x2048x1, .i1⟩) main_call6_v12) (fun x v => Host.reduce IntOp.andi x v reducesTo_S4x2048x1x1_S4x2048x1_d3 h_S_),
    TRef.binary (TRef.of (T := ⟨S4x2048x2048, .f32⟩) main_v36) (TRef.of (T := ⟨S4x2048x1x1, .i32⟩) main_call6_v5) (TRef.of (T := ⟨S4x2048x1, .f32⟩) main_call6_v13) (fun x i => Host.gather gather_S4x2048x2048_S4x2048x1x1_S4x2048x1_n_2_01_01_2_3_111 x i),
    TRef.nullary (TRef.of (T := ⟨S_, .f32⟩) main_call6_cst) (constant S_ .f32 0x7FC00000#32),
    TRef.unary (TRef.of (T := ⟨S_, .f32⟩) main_call6_cst) (TRef.of (T := ⟨S4x2048x1, .f32⟩) main_call6_v14) (broadcastInDim S4x2048x1 ![] bcast_S_S4x2048x1),
    TRef.ternary (TRef.of (T := ⟨S4x2048x1, .i1⟩) main_call6_v12) (TRef.of (T := ⟨S4x2048x1, .f32⟩) main_call6_v13) (TRef.of (T := ⟨S4x2048x1, .f32⟩) main_call6_v14) (TRef.of (T := ⟨S4x2048x1, .f32⟩) main_v38) select,
    reshape main_v38 main_v39 (rfl : (.f32 : EltTy) = .f32) shapeCasts_S4x2048x1_S4x2048,
    nullary main_cst_4 (constant S_ .f32 0x3F800000#32),
    unary main_cst_4 main_v40 (broadcastInDim S4x2048 ![] bcast_S_S4x2048 : (⟨S_, .f32⟩ : BufTy).Contents (Elt F) → (⟨S4x2048, .f32⟩ : BufTy).Contents (Elt F)),
    binary main_v39 main_v40 main_v41 (cmpf .ole : (⟨S4x2048, .f32⟩ : BufTy).Contents (Elt F) → (⟨S4x2048, .f32⟩ : BufTy).Contents (Elt F) → (⟨S4x2048, .i1⟩ : BufTy).Contents (Elt F)),
    nullary main_cst_5 (constant S_ .f32 0x3F800000#32),
    TRef.unary (TRef.of (T := ⟨S_, .f32⟩) main_cst_5) (TRef.of (T := ⟨S_, .f32⟩) main_call7_v0) id,
    TRef.unary (TRef.of (T := ⟨S_, .f32⟩) main_call7_v0) (TRef.of (T := ⟨S4x2048, .f32⟩) main_call7_v1) (broadcastInDim S4x2048 ![] bcast_S_S4x2048),
    TRef.ternary (TRef.of (T := ⟨S4x2048, .i1⟩) main_v41) (TRef.of (T := ⟨S4x2048, .f32⟩) main_v39) (TRef.of (T := ⟨S4x2048, .f32⟩) main_call7_v1) (TRef.of (T := ⟨S4x2048, .f32⟩) main_v42) select ]

/-- All operations of the reference, in order. -/
abbrev ops : List (HloOp τ sig (Elt F)) := sortOps ++ (sumOps ++ (validOps ++ pickOps))

set_option maxHeartbeats 4000000 in
/-- The reference program is this line of operations. -/
theorem main_eq (c : Dev nD) : main (F := F) c = seq ops := rfl

/-- No buffer of the reference is scoped. -/
theorem scopedRefs_eq : (Finset.univ.filter fun b : Ref sig .tc => b.isScoped) = ∅ := by decide
/-- No semaphore of the reference is scoped. -/
theorem scopedSems_eq : (Finset.univ.filter fun sm : SemLoc sig => sm.isScoped .tc) = ∅ := by decide

/-- The stretch touches tensor buffers only. -/
theorem sortOps_sub : (sortOps : List (HloOp τ sig (Elt F))).Forall fun op => op.bufs ⊆ tcRefs τ sig :=
  ⟨nullary_bufs_sub .., unary_bufs_sub .., nullary_bufs_sub .., unary_bufs_sub .., nullary_bufs_sub .., binary_bufs_sub .., binary_bufs_sub .., unary_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- The stretch touches tensor buffers only. -/
theorem sumOps_sub : (sumOps : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub ..⟩

/-- The stretch touches tensor buffers only. -/
theorem validOps_sub : (validOps : List (HloOp τ sig (Elt F))).Forall fun op => op.bufs ⊆ tcRefs τ sig :=
  ⟨nullary_bufs_sub .., unary_bufs_sub .., binary_bufs_sub .., unary_bufs_sub .., unary_bufs_sub .., binary_bufs_sub .., unary_bufs_sub .., unary_bufs_sub .., unary_bufs_sub .., binary_bufs_sub .., nullary_bufs_sub .., unary_bufs_sub .., binary_bufs_sub .., unary_bufs_sub .., binary_bufs_sub .., nullary_bufs_sub .., nullary_bufs_sub .., nullary_bufs_sub .., quaternary_bufs_sub .., quaternary_bufs_sub ..⟩

/-- The stretch touches tensor buffers only. -/
theorem pickOps_sub : (pickOps : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., nullary_bufs_sub .., unary_bufs_sub .., binary_bufs_sub .., nullary_bufs_sub .., unary_bufs_sub .., unary_bufs_sub .., ternary_bufs_sub ..⟩

/-- The whole line touches tensor buffers only. -/
theorem ops_sub : (ops : List (HloOp τ sig (Elt F))).Forall fun op => op.bufs ⊆ tcRefs τ sig := by
  rw [List.forall_iff_forall_mem]
  intro op hop
  have h1 := List.forall_iff_forall_mem.mp (sortOps_sub (F := F))
  have h2 := List.forall_iff_forall_mem.mp (sumOps_sub (F := F))
  have h3 := List.forall_iff_forall_mem.mp (validOps_sub (F := F))
  have h4 := List.forall_iff_forall_mem.mp (pickOps_sub (F := F))
  rcases List.mem_append.mp hop with h | h
  · exact h1 op h
  rcases List.mem_append.mp h with h | h
  · exact h2 op h
  rcases List.mem_append.mp h with h | h
  · exact h3 op h
  · exact h4 op h

/-- A line of operations run after another is the two lines run one after the other. -/
theorem after_two (l₁ l₂ : List (HloOp τ sig (Elt F))) (V : Valuation τ sig (Elt F)) :
    after (l₁ ++ l₂) V = after l₂ (after l₁ V) := by
  induction l₁ generalizing V with
  | nil => rfl
  | cons o l ih => rw [List.cons_append, after_cons, after_cons, ih]

/-! ## The reference as functions of its two arguments -/

/-- The input indices in the order of their spike times. -/
def order (x : FVec F S4x2048 .f32) : IVec S4x2048 32 :=
  (Host.sort2 S4x2048 1 comparator_f32_i32_d1 x (iotaInDim S4x2048 32 1)).2

/-- The spike times in order, as a column per sample. -/
def times (x : FVec F S4x2048 .f32) : FVec F S4x2048x1 .f32 :=
  broadcastInDim S4x2048x1 ![0, 1] bcast_S4x2048_S4x2048x1_0_1 (Host.sort S4x2048 1 comparator_f32_d1 x)

/-- A row index per sample and rank, a negative one counted from the end. -/
def slots (o : IVec S4x2048 32) : IVec S4x2048x1 32 :=
  broadcastInDim S4x2048x1 ![0, 1] bcast_S4x2048_S4x2048x1_0_1
    (select (cmpi .slt o (broadcastInDim S4x2048 ![] bcast_S_S4x2048 (constantI S_ 32 0#32)))
      (addi o (broadcastInDim S4x2048 ![] bcast_S_S4x2048 (constantI S_ 32 2048#32))) o)

/-- Which row indices are in range. -/
def slotsOk (i : IVec S4x2048x1 32) : IVec S4x2048 1 :=
  Host.reduce IntOp.andi
    (andi (cmpi .sge i (broadcastInDim S4x2048x1 ![] bcast_S_S4x2048x1 (constantI S_ 32 0#32)))
      (cmpi .sle i (broadcastInDim S4x2048x1 ![0, 1, 2] bcast_S1x1x1_S4x2048x1_0_1_2
        (broadcastInDim S1x1x1 ![2] bcast_S1_S1x1x1_2 (constantI S1 32 2047#32)))))
    (constantI S_ 1 1#1) reducesTo_S4x2048x1_S4x2048_d2 h_S_

/-- The weight rows named by the indices, a missing one replaced by the not-a-number word. -/
def rowsAt (w : FVec F S2048x2048 .f32) (i : IVec S4x2048x1 32) : FVec F S4x2048x2048 .f32 :=
  select (broadcastInDim S4x2048x2048 ![0, 1] bcast_S4x2048_S4x2048x2048_0_1 (slotsOk i))
    (Host.gather gather_S2048x2048_S4x2048x1_S4x2048x2048_2_0_n_n_0_2_12048 w i)
    (broadcastInDim S4x2048x2048 ![] bcast_S_S4x2048x2048 (constant S_ .f32 0x7FC00000#32))

/-- The weight rows in spike order. -/
def rows (x : FVec F S4x2048 .f32) (w : FVec F S2048x2048 .f32) : FVec F S4x2048x2048 .f32 := rowsAt w (slots (order x))

/-- The running sums along the middle axis. -/
def running (u : FVec F S4x2048x2048 .f32) : FVec F S4x2048x2048 .f32 :=
  Host.reduceWindowAdd ![1, 2048, 1] ![1, 1, 1] ![0, 2047, 0] ![0, 0, 0] u
    (broadcastInDim S_ ![] bcast_S_S_ (constant S_ .f32 0x00000000#32))
    reduceWindows_S4x2048x2048_S4x2048x2048_w1s1p0_0_w2048s1p2047_0_w1s1p0_0 h_S_

/-- A scalar literal over the output units. -/
def lane (b : BitVec 32) : FVec F S2048 .f32 := broadcastInDim S2048 ![] bcast_S_S2048 (constant S_ .f32 b)

/-- A row over the output units, repeated over samples and ranks. -/
def spread (v : FVec F S2048 .f32) : FVec F S4x2048x2048 .f32 :=
  broadcastInDim S4x2048x2048 ![0, 1, 2] bcast_S1x1x2048_S4x2048x2048_0_1_2 (broadcastInDim S1x1x2048 ![2] bcast_S2048_S1x1x2048_2 v)

/-- The weights times the times, rank by rank. -/
def weighted (r : FVec F S4x2048x2048 .f32) (t : FVec F S4x2048x1 .f32) : FVec F S4x2048x2048 .f32 :=
  mulf r (broadcastInDim S4x2048x2048 ![0, 1, 2] bcast_S4x2048x1_S4x2048x2048_0_1_2 t)

/-- The candidate output time of every rank: from the rows `r` and the times `t`. -/
def candidate (r : FVec F S4x2048x2048 .f32) (t : FVec F S4x2048x1 .f32) : FVec F S4x2048x2048 .f32 :=
  Host.divf
    (addf (addf (running (weighted r t)) (spread (lane 0x00000000#32)))
      (spread (mulf (lane 0x3F800000#32) (lane 0x00000000#32))))
    (addf (running r) (spread (lane 0x3F800000#32)))

/-- The time of the spike after each rank, a large one after the last. -/
def following (t : FVec F S4x2048x1 .f32) : FVec F S4x2048x1 .f32 :=
  extractStridedSlice S4x2048x1 ![0, 1, 0]
    (appendLast t (broadcastInDim S4x1x1 ![] bcast_S_S4x1x1 (constant S_ .f32 0x49742400#32))) slices_S4x2049x1_S4x2048x1_0_1_0

/-- Which candidates count, as zero or one: the candidate `q` comes before the next spike and the running weight `s`, plus one, is positive. -/
def valid (q s : FVec F S4x2048x2048 .f32) (t : FVec F S4x2048x1 .f32) : FVec F S4x2048x2048 .f32 :=
  mulf
    (uitofp .f32 (cmpf .olt q (broadcastInDim S4x2048x2048 ![0, 1, 2] bcast_S4x2048x1_S4x2048x2048_0_1_2 (following t))))
    (uitofp .f32 (cmpf .ogt (addf s (spread (lane 0x3F800000#32)))
      (broadcastInDim S4x2048x2048 ![] bcast_S_S4x2048x2048 (constant S_ .f32 0x00000000#32))))

/-- The rank of the largest entry, the first one among equals. -/
def leading (v : FVec F S4x2048x2048 .f32) : IVec S4x2048 32 := fun j =>
  (Host.argReduce reducer_argmax_f32_i32 v (iotaInDim S4x2048x2048 32 1) (constant S_ .f32 0xFF800000#32) (constantI S_ 32 0#32)
    reducesTo_S4x2048x2048_S4x2048_d1 h_S_ j).2

/-- The rank to pick per sample and output unit, a negative one counted from the end. -/
def pickSlots (k : IVec S4x2048 32) : IVec S4x2048x1x1 32 :=
  shapeCast S4x2048x1x1
    (select (cmpi .slt (broadcastInDim S4x2048x1 ![0, 1] bcast_S4x2048_S4x2048x1_0_1 k) (broadcastInDim S4x2048x1 ![] bcast_S_S4x2048x1 (constantI S_ 32 0#32)))
      (addi (broadcastInDim S4x2048x1 ![0, 1] bcast_S4x2048_S4x2048x1_0_1 k) (broadcastInDim S4x2048x1 ![] bcast_S_S4x2048x1 (constantI S_ 32 2048#32)))
      (broadcastInDim S4x2048x1 ![0, 1] bcast_S4x2048_S4x2048x1_0_1 k)) shapeCasts_S4x2048x1_S4x2048x1x1

/-- Which ranks to pick are in range. -/
def pickOk (i : IVec S4x2048x1x1 32) : IVec S4x2048x1 1 :=
  Host.reduce IntOp.andi
    (andi (cmpi .sge i (broadcastInDim S4x2048x1x1 ![] bcast_S_S4x2048x1x1 (constantI S_ 32 0#32)))
      (cmpi .sle i (broadcastInDim S4x2048x1x1 ![0, 1, 2, 3] bcast_S1x1x1x1_S4x2048x1x1_0_1_2_3
        (broadcastInDim S1x1x1x1 ![3] bcast_S1_S1x1x1x1_3 (constantI S1 32 2047#32)))))
    (constantI S_ 1 1#1) reducesTo_S4x2048x1x1_S4x2048x1_d3 h_S_

/-- The candidate at the picked rank. -/
def pickAt (q : FVec F S4x2048x2048 .f32) (i : IVec S4x2048x1x1 32) : FVec F S4x2048x1 .f32 :=
  select (pickOk i)
    (Host.gather gather_S4x2048x2048_S4x2048x1x1_S4x2048x1_n_2_01_01_2_3_111
      (transpose S4x2048x2048 [0, 2, 1] q transposes_S4x2048x2048_S4x2048x2048_0_2_1) i)
    (broadcastInDim S4x2048x1 ![] bcast_S_S4x2048x1 (constant S_ .f32 0x7FC00000#32))

/-- Anything not at most one becomes one. -/
def cut (p : FVec F S4x2048x1 .f32) : FVec F S4x2048 .f32 :=
  select (cmpf .ole (shapeCast S4x2048 p shapeCasts_S4x2048x1_S4x2048) (broadcastInDim S4x2048 ![] bcast_S_S4x2048 (constant S_ .f32 0x3F800000#32)))
    (shapeCast S4x2048 p shapeCasts_S4x2048x1_S4x2048) (broadcastInDim S4x2048 ![] bcast_S_S4x2048 (constant S_ .f32 0x3F800000#32))

/-- The reference function. -/
def out (x : FVec F S4x2048 .f32) (w : FVec F S2048x2048 .f32) : FVec F S4x2048 .f32 :=
  cut (pickAt (candidate (rows x w) (times x))
    (pickSlots (leading (valid (candidate (rows x w) (times x)) (running (rows x w)) (times x)))))

/-! ## What each stretch leaves -/

theorem sort_rows (V : Valuation τ sig (Elt F)) :
    after sortOps V (Proc.devRef .tc main_v5 : DevRef τ sig) = rows (V (Proc.devRef .tc main_arg0)) (V (Proc.devRef .tc main_arg1)) := by
  simp only [sortOps, TRef.binary, TRef.nullary, TRef.ternary, TRef.unary, TRef.toBuf, TRef.ofBuf, cast_eq]
  after_results_simp <;> rfl
theorem sort_times (V : Valuation τ sig (Elt F)) :
    after sortOps V (Proc.devRef .tc main_v4 : DevRef τ sig) = times (V (Proc.devRef .tc main_arg0)) := by
  simp only [sortOps, TRef.binary, TRef.nullary, TRef.ternary, TRef.unary, TRef.toBuf, TRef.ofBuf, cast_eq]
  after_results_simp <;> rfl
theorem sort_ones (V : Valuation τ sig (Elt F)) :
    after sortOps V (Proc.devRef .tc main_v0 : DevRef τ sig) = lane (F := F) 0x3F800000#32 := by
  simp only [sortOps, TRef.binary, TRef.nullary, TRef.ternary, TRef.unary, TRef.toBuf, TRef.ofBuf, cast_eq]
  after_results_simp <;> rfl
theorem sort_zeros (V : Valuation τ sig (Elt F)) :
    after sortOps V (Proc.devRef .tc main_v1 : DevRef τ sig) = lane (F := F) 0x00000000#32 := by
  simp only [sortOps, TRef.binary, TRef.nullary, TRef.ternary, TRef.unary, TRef.toBuf, TRef.ofBuf, cast_eq]
  after_results_simp <;> rfl
theorem sort_arg0 (V : Valuation τ sig (Elt F)) :
    after sortOps V (Proc.devRef .tc main_arg0 : DevRef τ sig) = V (Proc.devRef .tc main_arg0) := by
  simp only [sortOps, TRef.binary, TRef.nullary, TRef.ternary, TRef.unary, TRef.toBuf, TRef.ofBuf, cast_eq]
  after_results_simp <;> rfl
theorem sort_arg1 (V : Valuation τ sig (Elt F)) :
    after sortOps V (Proc.devRef .tc main_arg1 : DevRef τ sig) = V (Proc.devRef .tc main_arg1) := by
  simp only [sortOps, TRef.binary, TRef.nullary, TRef.ternary, TRef.unary, TRef.toBuf, TRef.ofBuf, cast_eq]
  after_results_simp <;> rfl

theorem sum_candidate (V : Valuation τ sig (Elt F)) (h0 : V (Proc.devRef .tc main_v0) = lane (F := F) 0x3F800000#32)
    (h1 : V (Proc.devRef .tc main_v1) = lane (F := F) 0x00000000#32) :
    after sumOps V (Proc.devRef .tc main_v21 : DevRef τ sig) = candidate (V (Proc.devRef .tc main_v5)) (V (Proc.devRef .tc main_v4)) := by
  simp only [sumOps, TRef.binary, TRef.nullary, TRef.ternary, TRef.unary, TRef.toBuf, TRef.ofBuf, cast_eq]
  after_results_simp <;> (rw [h0, h1]; rfl)
theorem sum_running (V : Valuation τ sig (Elt F)) :
    after sumOps V (Proc.devRef .tc main_v9 : DevRef τ sig) = running (V (Proc.devRef .tc main_v5)) := by
  simp only [sumOps, TRef.binary, TRef.nullary, TRef.ternary, TRef.unary, TRef.toBuf, TRef.ofBuf, cast_eq]
  after_results_simp <;> rfl
theorem sum_times (V : Valuation τ sig (Elt F)) :
    after sumOps V (Proc.devRef .tc main_v4 : DevRef τ sig) = V (Proc.devRef .tc main_v4) := by
  simp only [sumOps, TRef.binary, TRef.nullary, TRef.ternary, TRef.unary, TRef.toBuf, TRef.ofBuf, cast_eq]
  after_results_simp <;> rfl
theorem sum_ones (V : Valuation τ sig (Elt F)) :
    after sumOps V (Proc.devRef .tc main_v0 : DevRef τ sig) = V (Proc.devRef .tc main_v0) := by
  simp only [sumOps, TRef.binary, TRef.nullary, TRef.ternary, TRef.unary, TRef.toBuf, TRef.ofBuf, cast_eq]
  after_results_simp <;> rfl
theorem sum_arg0 (V : Valuation τ sig (Elt F)) :
    after sumOps V (Proc.devRef .tc main_arg0 : DevRef τ sig) = V (Proc.devRef .tc main_arg0) := by
  simp only [sumOps, TRef.binary, TRef.nullary, TRef.ternary, TRef.unary, TRef.toBuf, TRef.ofBuf, cast_eq]
  after_results_simp <;> rfl
theorem sum_arg1 (V : Valuation τ sig (Elt F)) :
    after sumOps V (Proc.devRef .tc main_arg1 : DevRef τ sig) = V (Proc.devRef .tc main_arg1) := by
  simp only [sumOps, TRef.binary, TRef.nullary, TRef.ternary, TRef.unary, TRef.toBuf, TRef.ofBuf, cast_eq]
  after_results_simp <;> rfl

theorem valid_leading (V : Valuation τ sig (Elt F)) (h0 : V (Proc.devRef .tc main_v0) = lane (F := F) 0x3F800000#32) :
    after validOps V (Proc.devRef .tc main_v35 : DevRef τ sig)
      = leading (valid (V (Proc.devRef .tc main_v21)) (V (Proc.devRef .tc main_v9)) (V (Proc.devRef .tc main_v4))) := by
  simp only [validOps, TRef.binary, TRef.nullary, TRef.ternary, TRef.quaternary, TRef.unary, TRef.toBuf, TRef.ofBuf, cast_eq]
  after_results_simp <;> (rw [h0]; rfl)
theorem valid_candidate (V : Valuation τ sig (Elt F)) :
    after validOps V (Proc.devRef .tc main_v21 : DevRef τ sig) = V (Proc.devRef .tc main_v21) := by
  simp only [validOps, TRef.binary, TRef.nullary, TRef.ternary, TRef.quaternary, TRef.unary, TRef.toBuf, TRef.ofBuf, cast_eq]
  after_results_simp <;> rfl
theorem valid_arg0 (V : Valuation τ sig (Elt F)) :
    after validOps V (Proc.devRef .tc main_arg0 : DevRef τ sig) = V (Proc.devRef .tc main_arg0) := by
  simp only [validOps, TRef.binary, TRef.nullary, TRef.ternary, TRef.quaternary, TRef.unary, TRef.toBuf, TRef.ofBuf, cast_eq]
  after_results_simp <;> rfl
theorem valid_arg1 (V : Valuation τ sig (Elt F)) :
    after validOps V (Proc.devRef .tc main_arg1 : DevRef τ sig) = V (Proc.devRef .tc main_arg1) := by
  simp only [validOps, TRef.binary, TRef.nullary, TRef.ternary, TRef.quaternary, TRef.unary, TRef.toBuf, TRef.ofBuf, cast_eq]
  after_results_simp <;> rfl

theorem pick_out (V : Valuation τ sig (Elt F)) :
    after pickOps V (Proc.devRef .tc main_v42 : DevRef τ sig)
      = cut (pickAt (V (Proc.devRef .tc main_v21)) (pickSlots (V (Proc.devRef .tc main_v35)))) := by
  simp only [pickOps, TRef.binary, TRef.nullary, TRef.ternary, TRef.reshape, TRef.unary, TRef.toBuf, TRef.ofBuf, cast_eq]
  after_results_simp <;> rfl
theorem pick_arg0 (V : Valuation τ sig (Elt F)) :
    after pickOps V (Proc.devRef .tc main_arg0 : DevRef τ sig) = V (Proc.devRef .tc main_arg0) := by
  simp only [pickOps, TRef.binary, TRef.nullary, TRef.ternary, TRef.reshape, TRef.unary, TRef.toBuf, TRef.ofBuf, cast_eq]
  after_results_simp <;> rfl
theorem pick_arg1 (V : Valuation τ sig (Elt F)) :
    after pickOps V (Proc.devRef .tc main_arg1 : DevRef τ sig) = V (Proc.devRef .tc main_arg1) := by
  simp only [pickOps, TRef.binary, TRef.nullary, TRef.ternary, TRef.reshape, TRef.unary, TRef.toBuf, TRef.ofBuf, cast_eq]
  after_results_simp <;> rfl

/-- The result buffer after the whole line. -/
theorem ops_out (V : Valuation τ sig (Elt F)) :
    after ops V (Proc.devRef .tc main_v42 : DevRef τ sig) = out (V (Proc.devRef .tc main_arg0)) (V (Proc.devRef .tc main_arg1)) := by
  rw [ops, after_two, after_two, after_two, pick_out, valid_candidate, valid_leading _ ((sum_ones _).trans (sort_ones _)),
    sum_candidate _ (sort_ones _) (sort_zeros _), sum_running, sum_times, sort_rows, sort_times]
  rfl
/-- The first argument after the whole line. -/
theorem ops_arg0 (V : Valuation τ sig (Elt F)) :
    after ops V (Proc.devRef .tc main_arg0 : DevRef τ sig) = V (Proc.devRef .tc main_arg0) := by
  rw [ops, after_two, after_two, after_two, pick_arg0, valid_arg0, sum_arg0, sort_arg0]
/-- The second argument after the whole line. -/
theorem ops_arg1 (V : Valuation τ sig (Elt F)) :
    after ops V (Proc.devRef .tc main_arg1 : DevRef τ sig) = V (Proc.devRef .tc main_arg1) := by
  rw [ops, after_two, after_two, after_two, pick_arg1, valid_arg1, sum_arg1, sort_arg1]

/-- Every weakly fair execution of the reference terminates, its result buffer at `out` of the arguments, which are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42)
        = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v42).trans (ops_out _), (h c main_arg0).trans (ops_arg0 _), (h c main_arg1).trans (ops_arg1 _)⟩)
    (run_seq scopedRefs_eq scopedSems_eq defs main (fun _ => ops) main_eq (fun _ => ops_sub) m ρ)

/-- The reference terminates with its arguments unchanged and every counter at zero. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems (by decide) r.2⟩) (run m ρ)

end Cert.Proof.Ref

end
-- ==== Proof.RefReads.lean ====
/-
  The reference's index work, read: a row index in range names its row, a rank in range names its candidate, and the cut.
-/
module

public import proofs.«01_k».proof.Proof.RefRun
public import proofs.«01_k».proof.Proof.Words
public import Idealize.ShloMosaic.Lib.ValueIdxCore
public import Idealize.ShloMosaic.Lib.Pointwise

@[expose] public section

set_option maxRecDepth 16384

noncomputable section

namespace Cert.Proof.Ref

open Cert.ReferenceIdeal Cert.ReferenceIdeal.Gen
open Idealize.ShloMosaic Idealize.ShloMosaic.TcCoe Idealize.ShloMosaic.Tactic Idealize.SL.Sem
open Cert.Proof.Spec

/-- A number below 2048 is not negative. -/
theorem wrap_word {k : ℕ} (hk : k < 2048) :
    Scalar.select (IntOp.cmpi .slt (BitVec.ofNat 32 k) 0#32) (IntOp.addi (BitVec.ofNat 32 k) 2048#32) (BitVec.ofNat 32 k) = BitVec.ofNat 32 k := by
  rw [show (0#32 : BitVec 32) = BitVec.ofNat 32 0 from rfl, Words.cmpi_slt (by omega) (by omega), Words.select_bit, if_neg (by omega)]

/-- A number below 2048 lies between 0 and 2047. -/
theorem range_word {k : ℕ} (hk : k < 2048) :
    IntOp.andi (IntOp.cmpi .sge (BitVec.ofNat 32 k) 0#32) (IntOp.cmpi .sle (BitVec.ofNat 32 k) 2047#32) = 1#1 := by
  have h1 : IntOp.cmpi .sge (BitVec.ofNat 32 k) 0#32 = BitVec.ofBool ((BitVec.ofNat 32 0).sle (BitVec.ofNat 32 k)) := rfl
  have h2 : IntOp.cmpi .sle (BitVec.ofNat 32 k) 2047#32 = BitVec.ofBool ((BitVec.ofNat 32 k).sle (BitVec.ofNat 32 2047)) := rfl
  rw [h1, h2, BitVec.sle_eq_decide, BitVec.sle_eq_decide, Words.toInt_ofNat (by omega), Words.toInt_ofNat (by omega), Words.toInt_ofNat (by omega),
    Words.andi_bit, Words.bit_eq_one]
  omega

/-- The clamped reading of a number below 2048 is the number. -/
theorem clamp_word {k : ℕ} (hk : k < 2048) : min (BitVec.ofNat 32 k).toInt.toNat (2048 - 1) = k := by
  rw [Words.toInt_ofNat (by omega)]
  omega

/-- The row indices, where the ranks' positions are small numbers. -/
theorem slots_at (o : IVec S4x2048 32) (b : Fin 4) (d k : Fin 2048) (ho : o (ix2 b d) = BitVec.ofNat 32 k.val) :
    slots o (ix3 b d (0 : Fin 1)) = BitVec.ofNat 32 k.val := by
  rw [← wrap_word k.isLt, ← ho]
  pointwise [slots]

/-- Such an index is in range. -/
theorem slotsOk_at (i : IVec S4x2048x1 32) (b : Fin 4) (d k : Fin 2048) (hi : i (ix3 b d (0 : Fin 1)) = BitVec.ofNat 32 k.val) :
    slotsOk i (ix2 b d) = 1#1 := by
  have e : slotsOk i (ix2 b d) = Finset.fold IntOp.andi (1#1)
      (fun x : Fin 1 => IntOp.andi (IntOp.cmpi .sge (i (ix3 b d x)) 0#32) (IntOp.cmpi .sle (i (ix3 b d x)) 2047#32)) Finset.univ := by
    pointwise [slotsOk]
  rw [e, Finset.univ_unique, Finset.fold_singleton]
  show IntOp.andi (IntOp.andi (IntOp.cmpi .sge (i (ix3 b d (0 : Fin 1))) 0#32) (IntOp.cmpi .sle (i (ix3 b d (0 : Fin 1))) 2047#32)) 1#1 = 1#1
  rw [hi, range_word k.isLt]
  rfl

/-- The gather of rows at an index: the row the index names. -/
theorem gather_rows {α : Type} (w : S2048x2048.Idx → α) (i : IVec S4x2048x1 32) (b : Fin 4) (d o : Fin 2048) :
    Host.gather gather_S2048x2048_S4x2048x1_S4x2048x2048_2_0_n_n_0_2_12048 w i (ix3 b d o)
      = w (ix2 ⟨min (i (ix3 b d (0 : Fin 1))).toInt.toNat (2048 - 1), by omega⟩ o) := by
  unfold Host.gather
  refine congrArg w ?_
  funext a
  refine Fin.ext ?_
  show GatherDims.start _ (ix3 b d o) i a + GatherDims.batchCoord _ (ix3 b d o) a + GatherDims.offCoord _ (ix3 b d o) a = _
  have ha : a = (0 : Fin 2) ∨ a = (1 : Fin 2) := by
    match a with
    | ⟨0, _⟩ => exact .inl rfl
    | ⟨1, _⟩ => exact .inr rfl
  rcases ha with rfl | rfl
  · rw [GatherDims.batchCoord_eq_zero _ _ _ (by intro h; exact List.not_mem_nil h),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S2048x2048_S4x2048x1_S4x2048x2048_2_0_n_n_0_2_12048.startIndexMap from List.mem_singleton.mpr rfl)]
    have hs : GatherDims.siIdx gather_S2048x2048_S4x2048x1_S4x2048x2048_2_0_n_n_0_2_12048 (ix3 b d o)
        ⟨List.idxOf (0 : Fin 2) [0], List.idxOf_lt_length_iff.2 (List.mem_singleton.mpr rfl)⟩ = ix3 b d (0 : Fin 1) := by
      funext b
      refine Fin.ext ?_
      match b with
      | ⟨0, _⟩ => rfl
      | ⟨1, _⟩ => rfl
      | ⟨2, _⟩ => rfl
    exact congrArg (fun v : BitVec 32 => min v.toInt.toNat (2048 - 1)) (congrArg i hs)
  · rw [GatherDims.batchCoord_eq_zero _ _ _ (by intro h; exact List.not_mem_nil h)]
    unfold GatherDims.start
    rw [dif_neg (by intro h; exact absurd (List.mem_singleton.mp h) (by decide))]
    simp only [Nat.zero_add, Nat.add_zero]
    unfold GatherDims.offCoord
    rw [dif_pos (by decide)]
    rfl

/-- The rows, where every index is a small number. -/
theorem rowsAt_at (w : FVec Ideal S2048x2048 .f32) (i : IVec S4x2048x1 32) (b : Fin 4) (d o k : Fin 2048)
    (hi : i (ix3 b d (0 : Fin 1)) = BitVec.ofNat 32 k.val) : rowsAt (F := Ideal) w i (ix3 b d o) = w (ix2 k o) := by
  have e : rowsAt (F := Ideal) w i (ix3 b d o) = Scalar.select (slotsOk i (ix2 b d))
      (Host.gather gather_S2048x2048_S4x2048x1_S4x2048x2048_2_0_n_n_0_2_12048 w i (ix3 b d o)) (Ideal.ofBits .f32 2143289344#32) := by
    pointwise [rowsAt]
  rw [e, slotsOk_at i b d k hi, gather_rows, Words.select_eq, if_pos rfl]
  have h : (⟨min (i (ix3 b d (0 : Fin 1))).toInt.toNat (2048 - 1), by omega⟩ : Fin 2048) = k := by
    refine Fin.ext ?_
    show min (i (ix3 b d (0 : Fin 1))).toInt.toNat (2048 - 1) = k.val
    rw [hi, clamp_word k.isLt]
  rw [h]

/-- The ranks to pick, where they are small numbers. -/
theorem pickSlots_at (k : IVec S4x2048 32) (b : Fin 4) (o r : Fin 2048) (hk : k (ix2 b o) = BitVec.ofNat 32 r.val) :
    pickSlots k (ix4 b o (0 : Fin 1) (0 : Fin 1)) = BitVec.ofNat 32 r.val := by
  rw [← wrap_word r.isLt, ← hk]
  pointwise [pickSlots]

/-- Such a rank is in range. -/
theorem pickOk_at (i : IVec S4x2048x1x1 32) (b : Fin 4) (o r : Fin 2048) (hi : i (ix4 b o (0 : Fin 1) (0 : Fin 1)) = BitVec.ofNat 32 r.val) :
    pickOk i (ix3 b o (0 : Fin 1)) = 1#1 := by
  have e : pickOk i (ix3 b o (0 : Fin 1)) = Finset.fold IntOp.andi (1#1)
      (fun x : Fin 1 => IntOp.andi (IntOp.cmpi .sge (i (ix4 b o (0 : Fin 1) x)) 0#32) (IntOp.cmpi .sle (i (ix4 b o (0 : Fin 1) x)) 2047#32)) Finset.univ := by
    pointwise [pickOk]
  rw [e, Finset.univ_unique, Finset.fold_singleton]
  show IntOp.andi (IntOp.andi (IntOp.cmpi .sge (i (ix4 b o (0 : Fin 1) (0 : Fin 1))) 0#32) (IntOp.cmpi .sle (i (ix4 b o (0 : Fin 1) (0 : Fin 1))) 2047#32)) 1#1 = 1#1
  rw [hi, range_word r.isLt]
  rfl

/-- The gather of candidates at an index: the candidate at the rank the index names. -/
theorem gather_pick {α : Type} (q : S4x2048x2048.Idx → α) (i : IVec S4x2048x1x1 32) (b : Fin 4) (o : Fin 2048) :
    Host.gather gather_S4x2048x2048_S4x2048x1x1_S4x2048x1_n_2_01_01_2_3_111 q i (ix3 b o (0 : Fin 1))
      = q (ix3 b o ⟨min (i (ix4 b o (0 : Fin 1) (0 : Fin 1))).toInt.toNat (2048 - 1), by omega⟩) := by
  unfold Host.gather
  refine congrArg q ?_
  funext a
  refine Fin.ext ?_
  show GatherDims.start _ (ix3 b o (0 : Fin 1)) i a + GatherDims.batchCoord _ (ix3 b o (0 : Fin 1)) a + GatherDims.offCoord _ (ix3 b o (0 : Fin 1)) a = _
  have ha : a = (0 : Fin 3) ∨ a = (1 : Fin 3) ∨ a = (2 : Fin 3) := by
    match a with
    | ⟨0, _⟩ => exact .inl rfl
    | ⟨1, _⟩ => exact .inr (.inl rfl)
    | ⟨2, _⟩ => exact .inr (.inr rfl)
  rcases ha with rfl | rfl | rfl
  · rw [GatherDims.start_batching _ _ _ _ (by decide),
      GatherDims.offCoord_eq_zero _ _ _ (fun h => ((GatherDims.mem_sKept _ _).mp h).2 (by decide))]
    simp only [Nat.zero_add, Nat.add_zero]
    unfold GatherDims.batchCoord
    rw [dif_pos (by decide)]
    rfl
  · rw [GatherDims.start_batching _ _ _ _ (by decide),
      GatherDims.offCoord_eq_zero _ _ _ (fun h => ((GatherDims.mem_sKept _ _).mp h).2 (by decide))]
    simp only [Nat.zero_add, Nat.add_zero]
    unfold GatherDims.batchCoord
    rw [dif_pos (by decide)]
    rfl
  · rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ gather_S4x2048x2048_S4x2048x1x1_S4x2048x1_n_2_01_01_2_3_111.startIndexMap from List.mem_singleton.mpr rfl)]
    have hs : GatherDims.siIdx gather_S4x2048x2048_S4x2048x1x1_S4x2048x1_n_2_01_01_2_3_111 (ix3 b o (0 : Fin 1))
        ⟨List.idxOf (2 : Fin 3) [2], List.idxOf_lt_length_iff.2 (List.mem_singleton.mpr rfl)⟩ = ix4 b o (0 : Fin 1) (0 : Fin 1) := by
      funext b
      refine Fin.ext ?_
      match b with
      | ⟨0, _⟩ => rfl
      | ⟨1, _⟩ => rfl
      | ⟨2, _⟩ => rfl
      | ⟨3, _⟩ => rfl
    exact congrArg (fun v : BitVec 32 => min v.toInt.toNat (2048 - 1)) (congrArg i hs)

/-- The picked candidate, where the rank is a small number. -/
theorem pickAt_at (q : FVec Ideal S4x2048x2048 .f32) (i : IVec S4x2048x1x1 32) (b : Fin 4) (o r : Fin 2048)
    (hi : i (ix4 b o (0 : Fin 1) (0 : Fin 1)) = BitVec.ofNat 32 r.val) : pickAt (F := Ideal) q i (ix3 b o (0 : Fin 1)) = q (ix3 b r o) := by
  have e : pickAt (F := Ideal) q i (ix3 b o (0 : Fin 1)) = Scalar.select (pickOk i (ix3 b o (0 : Fin 1)))
      (Host.gather gather_S4x2048x2048_S4x2048x1x1_S4x2048x1_n_2_01_01_2_3_111
        (transpose S4x2048x2048 [0, 2, 1] q transposes_S4x2048x2048_S4x2048x2048_0_2_1) i (ix3 b o (0 : Fin 1))) (Ideal.ofBits .f32 2143289344#32) := by
    pointwise [pickAt]
  rw [e, pickOk_at i b o r hi, gather_pick, Words.select_eq, if_pos rfl]
  have h : (⟨min (i (ix4 b o (0 : Fin 1) (0 : Fin 1))).toInt.toNat (2048 - 1), by omega⟩ : Fin 2048) = r := by
    refine Fin.ext ?_
    show min (i (ix4 b o (0 : Fin 1) (0 : Fin 1))).toInt.toNat (2048 - 1) = r.val
    rw [hi, clamp_word r.isLt]
  rw [h]
  pointwise

/-- The cut at one. -/
theorem cut_at (p : FVec Ideal S4x2048x1 .f32) (b : Fin 4) (o : Fin 2048) : cut (F := Ideal) p (ix2 b o) = clip (p (ix3 b o (0 : Fin 1))) := by
  unfold clip
  pointwise [cut]

/-- The time after a rank. -/
theorem following_at (t : FVec Ideal S4x2048x1 .f32) (b : Fin 4) (d : Fin 2048) :
    following (F := Ideal) t (ix3 b d (0 : Fin 1)) = if h : d.val + 1 < 2048 then t (ix3 b ⟨d.val + 1, h⟩ (0 : Fin 1)) else ((1000000 : ℝ) : EReal) := by
  have e : following (F := Ideal) t (ix3 b d (0 : Fin 1)) = if h : 1 + d.val < 2048 then t (ix3 b ⟨1 + d.val, h⟩ (0 : Fin 1)) else Ideal.ofBits .f32 1232348160#32 := by
    pointwise [following, appendLast]
  rw [e, Words.million]
  simp only [Nat.add_comm 1]

/-- The weighted rows. -/
theorem weighted_at (r : FVec Ideal S4x2048x2048 .f32) (t : FVec Ideal S4x2048x1 .f32) (b : Fin 4) (d o : Fin 2048) :
    weighted (F := Ideal) r t (ix3 b d o) = r (ix3 b d o) * t (ix3 b d (0 : Fin 1)) := by
  pointwise [weighted]

end Cert.Proof.Ref

end
-- ==== Proof.RefSort.lean ====
/-
  The reference's sort, read: the position a stable sort takes each entry from, and what the sorted rows hold.
-/
module

public import proofs.«01_k».proof.Proof.RefRun
public import proofs.«01_k».proof.Proof.Words
public import Idealize.ShloMosaic.Lib.SortFacts
public import Idealize.ShloMosaic.Lib.Pointwise

@[expose] public section

set_option maxRecDepth 16384

noncomputable section

namespace Cert.Proof.Ref

open Cert.ReferenceIdeal Cert.ReferenceIdeal.Gen
open Idealize.ShloMosaic Idealize.ShloMosaic.TcCoe Idealize.ShloMosaic.Tactic Idealize.SL.Sem
open Cert.Proof.Spec

/-- A stable sort of a list in increasing order asks its relation only of a later entry and an earlier one, so two relations
    that agree there sort alike. -/
theorem stableSort_later {n : ℕ} (R R' : Fin n → Fin n → Bool) (h : ∀ a b, a < b → R b a = R' b a) (l : List (Fin n)) (hl : l.Pairwise (· < ·)) :
    stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

section order
variable {n : ℕ} (T : Fin n → ℝ)

/-- The relation "earlier", as a bit. -/
def earlier (k k' : Fin n) : Bool := decide (T k < T k')

/-- The position the stable sort by "earlier" takes each entry from. -/
def source (d : Fin n) : Fin n := sortedFrom (earlier T) d

/-- The stable sort by "earlier" is the sort by "before". -/
theorem source_eq : source T = sortedFrom fun k k' => decide (before T k k') := by
  have e : sortPositions n (earlier T) = sortPositions n fun k k' => decide (before T k k') := by
    refine stableSort_later _ _ (fun a b hab => ?_) _ (List.pairwise_lt_finRange n)
    unfold earlier before
    refine decide_eq_decide.mpr ⟨fun h => .inl h, fun h => ?_⟩
    rcases h with h | ⟨-, h⟩
    · exact h
    · exact absurd h (not_lt.mpr hab.le)
  funext d
  unfold source sortedFrom
  rw [List.get_of_eq e]
  rfl

/-- Of two events, one is before the other unless they are the same. -/
theorem before_total {k j : Fin n} (h : k ≠ j) : before T k j ∨ before T j k := by
  unfold before
  rcases lt_trichotomy (T k) (T j) with h1 | h1 | h1
  · exact .inl (.inl h1)
  · rcases lt_or_gt_of_ne h with h2 | h2
    · exact .inl (.inr ⟨h1, h2⟩)
    · exact .inr (.inr ⟨h1.symm, h2⟩)
  · exact .inr (.inl h1)

/-- An event before a second, itself before a third, is before the third. -/
theorem before_trans {i j k : Fin n} (h : before T i j) (h' : before T j k) : before T i k := by
  rcases h with h | ⟨h, h1⟩ <;> rcases h' with h' | ⟨h', h2⟩
  · exact .inl (h.trans h')
  · exact .inl (h'.symm ▸ h)
  · exact .inl (by rw [h]; exact h')
  · exact .inr ⟨h.trans h', h1.trans h2⟩

/-- The sorting permutation. -/
def perm : Equiv.Perm (Fin n) :=
  Equiv.ofBijective (source T) ⟨by unfold source; exact sortedFrom_injective _, by unfold source; exact sortedFrom_surjective _⟩

theorem perm_apply (d : Fin n) : perm T d = source T d := rfl

/-- The sorting permutation lists the events each before the next. -/
theorem perm_before (a b : Fin n) (hab : a < b) : before T (perm T a) (perm T b) := by
  have h : decide (before T (source T b) (source T a)) = false := by
    rw [source_eq]
    refine sortedFrom_noInversion (fun k k' => decide (before T k k')) _ ?_ (fun _ _ h => h) ?_ a b hab
    · intro a b h
      exact decide_eq_false (before_asymm (of_decide_eq_true h))
    · intro a b c h1 h2
      have h1 := of_decide_eq_false h1
      have h2 := of_decide_eq_false h2
      refine decide_eq_false fun h3 => ?_
      by_cases hab : a = b
      · subst hab; exact h2 h3
      by_cases hbc : b = c
      · subst hbc; exact h1 h3
      have h4 := (before_total T hab).resolve_left h1
      have h5 := (before_total T hbc).resolve_left h2
      exact before_asymm (before_trans T h5 h4) h3
  rcases before_total T (fun e => hab.ne ((perm T).injective e)) with h' | h'
  · exact h'
  · exact absurd h' (of_decide_eq_false h)

end order

/-- The comparator of the value sort is the order of the extended reals. -/
theorem cmp1 (l r : EReal) : comparator_f32_d1 (F := Ideal) l r = BitVec.ofBool (decide (l < r)) := by
  unfold comparator_f32_d1
  have hz : (FloatOps.ofBits .f32 0x00000000#32 : Ideal .f32) = (0 : EReal) := by
    show Ideal.ofBits .f32 0x00000000#32 = 0
    simp [Ideal.ofBits, Ideal.ieee]
  have e : ∀ v : EReal, Scalar.select (FloatOps.cmpf (F := Ideal) (φ := .f32) .une v v) (FloatOps.ofBits .f32 0x7FC00000#32 : Ideal .f32)
      (Scalar.select (FloatOps.cmpf (F := Ideal) (φ := .f32) .oeq v (FloatOps.ofBits .f32 0x00000000#32 : Ideal .f32)) (FloatOps.ofBits .f32 0x00000000#32 : Ideal .f32) v) = v := by
    intro v
    rw [hz]
    have h1 : FloatOps.cmpf (F := Ideal) (φ := .f32) .une v v = BitVec.ofBool (decide (v ≠ v)) := rfl
    have h2 : FloatOps.cmpf (F := Ideal) (φ := .f32) .oeq v (0 : EReal) = BitVec.ofBool (decide (v = 0)) := rfl
    rw [h1, h2, Words.select_bit, Words.select_bit, if_neg (fun h => h rfl)]
    split_ifs with h
    · exact h.symm
    · rfl
  dsimp only
  rw [e l, e r]
  rfl

/-- The comparator of the sort that carries the positions is the order of the extended reals on the values. -/
theorem cmp2 (l r : EReal × BitVec 32) : comparator_f32_i32_d1 (F := Ideal) l r = BitVec.ofBool (decide (l.1 < r.1)) := cmp1 l.1 r.1

section rows
variable (x : FVec Ideal S4x2048 .f32) (T : Fin 4 → Fin 2048 → ℝ) (hT : ∀ (b : Fin 4) (j : Fin 2048), x (ix2 b j) = ((T b j : ℝ) : EReal))

/-- The fiber along the second axis. -/
theorem along_at (b : Fin 4) (d k : Fin 2048) : (ix2 b d : S4x2048.Idx).along (1 : Fin 2) k = ix2 b k := by
  funext a
  match a with
  | ⟨0, _⟩ => rfl
  | ⟨1, _⟩ => rfl

/-- The counter along the second axis. -/
theorem iota_at (b : Fin 4) (d : Fin 2048) : iotaInDim S4x2048 32 1 (ix2 b d) = BitVec.ofNat 32 d.val := rfl

include hT

/-- The comparator's bit on two entries of a row. -/
theorem bit_earlier (b : Fin 4) (k k' : Fin 2048) : (BitVec.ofBool (decide ((x (ix2 b k) : EReal) < x (ix2 b k'))) == 1#1) = earlier (T b) k k' := by
  rw [hT, hT]
  unfold earlier
  by_cases h : T b k < T b k'
  · rw [decide_eq_true h, decide_eq_true (EReal.coe_lt_coe_iff.mpr h)]; rfl
  · rw [decide_eq_false h, decide_eq_false (mt EReal.coe_lt_coe_iff.mp h)]; rfl

/-- The sorted values. -/
theorem sort_at (b : Fin 4) (d : Fin 2048) : Host.sort S4x2048 1 (comparator_f32_d1 (F := Ideal)) x (ix2 b d) = ((T b (perm (T b) d) : ℝ) : EReal) := by
  unfold Host.sort
  rw [dif_pos (by decide : 1 < S4x2048.rank)]
  show x ((ix2 b d : S4x2048.Idx).along (1 : Fin 2) (sortedFrom (fun k k' : Fin 2048 => comparator_f32_d1 (F := Ideal) (x ((ix2 b d : S4x2048.Idx).along (1 : Fin 2) k)) (x ((ix2 b d : S4x2048.Idx).along (1 : Fin 2) k')) == 1#1) d)) = _
  simp only [along_at, cmp1]
  rw [show (fun k k' : Fin 2048 => BitVec.ofBool (decide ((x (ix2 b k) : EReal) < x (ix2 b k'))) == 1#1) = earlier (T b) from funext fun k => funext fun k' => bit_earlier x T hT b k k']
  rw [perm_apply, source]
  have e : ∀ k : Fin 2048, x ((ix2 b d : S4x2048.Idx).along (1 : Fin 2) k) = ((T b k : ℝ) : EReal) := fun k => by rw [along_at]; exact hT b k
  exact e _

/-- The sorted positions. -/
theorem order_at (b : Fin 4) (d : Fin 2048) : order (F := Ideal) x (ix2 b d) = BitVec.ofNat 32 (perm (T b) d).val := by
  unfold order Host.sort2
  rw [dif_pos (by decide : 1 < S4x2048.rank)]
  show iotaInDim S4x2048 32 1 ((ix2 b d : S4x2048.Idx).along (1 : Fin 2) (sortedFrom (fun k k' : Fin 2048 =>
    comparator_f32_i32_d1 (F := Ideal) (x ((ix2 b d : S4x2048.Idx).along (1 : Fin 2) k), _) (x ((ix2 b d : S4x2048.Idx).along (1 : Fin 2) k'), _) == 1#1) d)) = _
  simp only [along_at, cmp2]
  rw [show (fun k k' : Fin 2048 => BitVec.ofBool (decide ((x (ix2 b k) : EReal) < x (ix2 b k'))) == 1#1) = earlier (T b) from funext fun k => funext fun k' => bit_earlier x T hT b k k']
  rw [perm_apply, source]
  have e : ∀ k : Fin 2048, iotaInDim S4x2048 32 1 ((ix2 b d : S4x2048.Idx).along (1 : Fin 2) k) = BitVec.ofNat 32 k.val := fun k => by rw [along_at]; exact iota_at b k
  exact e _

/-- The sorted times as a column. -/
theorem times_at (b : Fin 4) (d : Fin 2048) : times (F := Ideal) x (ix3 b d (0 : Fin 1)) = ((T b (perm (T b) d) : ℝ) : EReal) := by
  rw [← sort_at x T hT b d]
  unfold times
  generalize Host.sort S4x2048 1 (comparator_f32_d1 (F := Ideal)) x = y
  pointwise

end rows

end Cert.Proof.Ref

end
-- ==== Proof.RefSums.lean ====
/-
  The reference's running sums, read: the sum along the ranks up to a rank, and from it the candidate times and which of
  them are valid.
-/
module

public import proofs.«01_k».proof.Proof.RefReads
public import proofs.«01_k».proof.Proof.RefSort

@[expose] public section

set_option maxRecDepth 16384

noncomputable section

namespace Cert.Proof.Ref

open Cert.ReferenceIdeal Cert.ReferenceIdeal.Gen
open Idealize.ShloMosaic Idealize.ShloMosaic.TcCoe Idealize.ShloMosaic.Tactic Idealize.SL.Sem
open Cert.Proof.Spec

/-- Adding a list's terms one after another adds their sum. -/
theorem foldl_add {ι : Type} (g : ι → EReal) (l : List ι) (v : EReal) : l.foldl (fun r n => r + g n) v = v + (l.map g).sum := by
  induction l generalizing v with
  | nil => exact (add_zero v).symm
  | cons a l ih => rw [List.foldl_cons, ih, List.map_cons, List.sum_cons, add_assoc]

/-- The window's shape: one sample, all ranks, one output unit. -/
abbrev window : Shape := ⟨3, ![1, 2048, 1]⟩

/-- A sum over the window is a sum over the ranks. -/
theorem sum_window (G : window.Idx → EReal) : ∑ i, G i = ∑ e : Fin 2048, G (ix3 (0 : Fin 1) e (0 : Fin 1)) := by
  refine (Fintype.sum_bijective (fun e : Fin 2048 => (ix3 (0 : Fin 1) e (0 : Fin 1) : window.Idx)) ⟨fun e e' h => ?_, fun i => ⟨i 1, ?_⟩⟩ _ _ fun _ => rfl).symm
  · exact congrFun h 1
  · funext a
    match a with
    | ⟨0, _⟩ => exact Subsingleton.elim (α := Fin 1) _ _
    | ⟨1, _⟩ => rfl
    | ⟨2, _⟩ => exact Subsingleton.elim (α := Fin 1) _ _

/-- A sum over the window shifted to end at rank `d` is the sum over the ranks up to `d`. -/
theorem sum_shift (f : Fin 2048 → EReal) (d : Fin 2048) :
    (∑ e : Fin 2048, if h : 2047 ≤ d.val + e.val ∧ d.val + e.val - 2047 < 2048 then f ⟨d.val + e.val - 2047, h.2⟩ else 0)
      = ∑ e : Fin 2048, if e.val ≤ d.val then f e else 0 := by
  have e1 : ∀ e : Fin 2048, (if h : 2047 ≤ d.val + e.val ∧ d.val + e.val - 2047 < 2048 then f ⟨d.val + e.val - 2047, h.2⟩ else 0)
      = if 2047 ≤ d.val + e.val then f ⟨d.val + e.val - 2047, by omega⟩ else 0 := by
    intro e
    by_cases h : 2047 ≤ d.val + e.val
    · rw [if_pos h, dif_pos ⟨h, by omega⟩]
    · rw [if_neg h, dif_neg fun h1 => h h1.1]
  rw [Finset.sum_congr rfl fun e _ => e1 e, ← Finset.sum_filter, ← Finset.sum_filter]
  refine Finset.sum_nbij' (fun e : Fin 2048 => (⟨d.val + e.val - 2047, by omega⟩ : Fin 2048))
    (fun e : Fin 2048 => (⟨min (e.val + 2047 - d.val) 2047, by omega⟩ : Fin 2048)) ?_ ?_ ?_ ?_ ?_
  · intro e h
    have h := (Finset.mem_filter.mp h).2
    refine Finset.mem_filter.mpr ⟨Finset.mem_univ _, ?_⟩
    show d.val + e.val - 2047 ≤ d.val
    omega
  · intro e h
    have h := (Finset.mem_filter.mp h).2
    refine Finset.mem_filter.mpr ⟨Finset.mem_univ _, ?_⟩
    show 2047 ≤ d.val + min (e.val + 2047 - d.val) 2047
    omega
  · intro e h
    have h := (Finset.mem_filter.mp h).2
    refine Fin.ext ?_
    show min (d.val + e.val - 2047 + 2047 - d.val) 2047 = e.val
    omega
  · intro e h
    have h := (Finset.mem_filter.mp h).2
    refine Fin.ext ?_
    show d.val + min (e.val + 2047 - d.val) 2047 - 2047 = e.val
    omega
  · intro e _
    rfl

section general
variable {s t u : Shape} (size strides lo hi : Fin s.rank → ℕ) (x : s.Idx → EReal) (v : EReal) (h : s.ReduceWindows size strides lo hi t) (hu : 0 < u.numel)

/-- The term the windowed sum at an index adds for a position of its window, `v` where the position is padding. -/
def shifted (j : t.Idx) (i : (a : Fin s.rank) → Fin (size a)) : EReal :=
  if hin : ∀ a : Fin s.rank, lo a ≤ (j (a.cast h.1.symm)).val * strides a + (i a).val ∧ (j (a.cast h.1.symm)).val * strides a + (i a).val - lo a < s.size a then
    x (fun a => ⟨(j (a.cast h.1.symm)).val * strides a + (i a).val - lo a, (hin a).2⟩) else v

/-- The windowed sum is the sum of those terms over the window. -/
theorem windowed (j : t.Idx) :
    Host.reduceWindow (fun a b : EReal => a + b) size strides lo hi x (fun _ : u.Idx => v) h hu j
      = v + ∑ i : (⟨s.rank, size⟩ : Shape).Idx, shifted size strides lo hi x v h j i := by
  rw [← Equiv.sum_comp (⟨s.rank, size⟩ : Shape).rowMajor.symm (shifted size strides lo hi x v h j), Fin.sum_univ_def, ← foldl_add]
  unfold Host.reduceWindow
  refine congrArg (fun f => List.foldl f v (List.finRange _)) (funext fun r => funext fun n => congrArg (r + ·) ?_)
  unfold shifted
  split_ifs
  · rfl
  · rfl

end general

/-- The running sum at an index: the sum up to the rank. -/
theorem running_at (u : FVec Ideal S4x2048x2048 .f32) (b : Fin 4) (d o : Fin 2048) :
    running (F := Ideal) u (ix3 b d o) = ∑ e : Fin 2048, if e.val ≤ d.val then (u (ix3 b e o) : EReal) else 0 := by
  have hz : (broadcastInDim S_ ![] bcast_S_S_ (constant (F := Ideal) S_ .f32 0x00000000#32) (Shape.Idx.first h_S_) : EReal) = 0 := by
    show Ideal.ofBits .f32 0x00000000#32 = 0
    simp [Ideal.ofBits, Ideal.ieee]
  unfold running Host.reduceWindowAdd
  rw [hz]
  show Ideal.hostReduceWindowAdd ![1, 2048, 1] ![1, 1, 1] ![0, 2047, 0] ![0, 0, 0]
    reduceWindows_S4x2048x2048_S4x2048x2048_w1s1p0_0_w2048s1p2047_0_w1s1p0_0 u 0 (ix3 b d o) = _
  unfold Ideal.hostReduceWindowAdd
  rw [windowed]
  rw [zero_add]
  refine (sum_window _).trans ?_
  rw [← sum_shift]
  refine Finset.sum_congr rfl fun e _ => ?_
  unfold shifted
  by_cases h : 2047 ≤ d.val + e.val ∧ d.val + e.val - 2047 < 2048
  · rw [dif_pos h, dif_pos]
    · refine congrArg u (funext fun a => Fin.ext ?_)
      match a with
      | ⟨0, _⟩ => show b.val * 1 + 0 - 0 = b.val; omega
      | ⟨1, _⟩ => show d.val * 1 + e.val - 2047 = d.val + e.val - 2047; omega
      | ⟨2, _⟩ => show o.val * 1 + 0 - 0 = o.val; omega
    · intro a
      match a with
      | ⟨0, _⟩ => show 0 ≤ b.val * 1 + 0 ∧ b.val * 1 + 0 - 0 < 4; omega
      | ⟨1, _⟩ => show 2047 ≤ d.val * 1 + e.val ∧ d.val * 1 + e.val - 2047 < 2048; omega
      | ⟨2, _⟩ => show 0 ≤ o.val * 1 + 0 ∧ o.val * 1 + 0 - 0 < 2048; omega
  · rw [dif_neg h, dif_neg]
    intro h1
    have h2 : 2047 ≤ d.val * 1 + e.val ∧ d.val * 1 + e.val - 2047 < 2048 := h1 1
    omega

section real
variable (x : FVec Ideal S4x2048 .f32) (w : FVec Ideal S2048x2048 .f32)
variable (T : Fin 4 → Fin 2048 → ℝ) (hT : ∀ (b : Fin 4) (j : Fin 2048), x (ix2 b j) = ((T b j : ℝ) : EReal))
variable (W : Fin 2048 → Fin 2048 → ℝ) (hW : ∀ (j o : Fin 2048), w (ix2 j o) = ((W j o : ℝ) : EReal))
include hT hW

/-- The rows in spike order hold the weights of the events in order. -/
theorem rows_at (b : Fin 4) (d o : Fin 2048) : rows (F := Ideal) x w (ix3 b d o) = ((W (perm (T b) d) o : ℝ) : EReal) := by
  unfold rows
  rw [rowsAt_at w _ b d o (perm (T b) d) (slots_at _ b d _ (order_at x T hT b d)), hW]

/-- The running weights, plus one, are the masses. -/
theorem mass_at (b : Fin 4) (d o : Fin 2048) :
    (running (F := Ideal) (rows x w) (ix3 b d o) : EReal) + 1 = ((mass (T b) (fun j => W j o) d.val : ℝ) : EReal) := by
  rw [running_at, mass_perm (T b) _ (perm (T b)) (perm_before (T b)), EReal.coe_add, EReal.coe_one, coe_sum]
  refine congrArg (· + (1 : EReal)) (Finset.sum_congr rfl fun e _ => ?_)
  rw [rows_at x w T hT W hW]
  split_ifs
  · rfl
  · rfl

/-- The running weighted times are the moments. -/
theorem moment_at (b : Fin 4) (d o : Fin 2048) :
    (running (F := Ideal) (weighted (rows x w) (times x)) (ix3 b d o) : EReal) = ((moment (T b) (fun j => W j o) d.val : ℝ) : EReal) := by
  rw [running_at, moment_perm (T b) _ (perm (T b)) (perm_before (T b)), coe_sum]
  refine Finset.sum_congr rfl fun e _ => ?_
  rw [weighted_at, rows_at x w T hT W hW, times_at x T hT]
  split_ifs
  · exact (EReal.coe_mul _ _).symm
  · rfl

/-- The candidate times are the quotients. -/
theorem candidate_at (b : Fin 4) (d o : Fin 2048) :
    candidate (F := Ideal) (rows x w) (times x) (ix3 b d o)
      = Ideal.div ((moment (T b) (fun j => W j o) d.val : ℝ) : EReal) ((mass (T b) (fun j => W j o) d.val : ℝ) : EReal) := by
  rw [← mass_at x w T hT W hW, ← moment_at x w T hT W hW]
  unfold candidate
  generalize running (F := Ideal) (weighted (rows x w) (times x)) = u
  generalize running (F := Ideal) (rows x w) = u'
  pointwise [spread, lane]

/-- The valid positions are the admissible ones. -/
theorem valid_at (b : Fin 4) (d o : Fin 2048) [Decidable (admissible (T b) (fun j => W j o) d)] :
    valid (F := Ideal) (candidate (rows x w) (times x)) (running (rows x w)) (times x) (ix3 b d o)
      = if admissible (T b) (fun j => W j o) d then (1 : EReal) else 0 := by
  have hf : following (F := Ideal) (times x) (ix3 b d (0 : Fin 1)) = ((next (T b) d.val : ℝ) : EReal) := by
    rw [following_at]
    split_ifs with h
    · rw [times_at x T hT, next_perm (T b) (perm (T b)) (perm_before (T b)) d.val h]
    · rw [next_last (T b) d.val (by omega)]
  have e : ∀ q s : FVec Ideal S4x2048x2048 .f32, valid (F := Ideal) q s (times x) (ix3 b d o)
      = (FloatOps.uitofp .f32 (BitVec.ofBool (decide ((q (ix3 b d o) : EReal) < following (F := Ideal) (times x) (ix3 b d (0 : Fin 1))))) : Ideal .f32)
        * (FloatOps.uitofp .f32 (BitVec.ofBool (decide ((0 : EReal) < (s (ix3 b d o) : EReal) + 1))) : Ideal .f32) := by
    intro q s
    unfold valid
    generalize following (F := Ideal) (times x) = u
    pointwise [spread, lane]
  rw [e, Words.uitofp_bit, Words.uitofp_bit, hf, candidate_at x w T hT W hW, mass_at x w T hT W hW]
  have ha := admissible_iff (T b) (fun j => W j o) d
  by_cases h : admissible (T b) (fun j => W j o) d
  · rw [if_pos h, if_pos (ha.mp h).1, if_pos (ha.mp h).2]
    exact one_mul _
  · rw [if_neg h]
    by_cases h1 : Ideal.div ((moment (T b) (fun j => W j o) d.val : ℝ) : EReal) ((mass (T b) (fun j => W j o) d.val : ℝ) : EReal) < ((next (T b) d.val : ℝ) : EReal)
    · rw [if_neg (fun h2 : (0 : EReal) < ((mass (T b) (fun j => W j o) d.val : ℝ) : EReal) => h (ha.mpr ⟨h1, h2⟩))]
      exact mul_zero _
    · rw [if_neg h1]
      exact zero_mul _

end real

end Cert.Proof.Ref

end
-- ==== Proof.RefPick.lean ====
/-
  The reference's choice of the rank: the fold over a fiber keeps the largest entry at its first rank, so over entries zero
  and one it ends at the first rank whose entry is one; and the reference's value.
-/
module

public import proofs.«01_k».proof.Proof.RefSums

@[expose] public section

set_option maxRecDepth 16384

noncomputable section

namespace Cert.Proof.Ref

open Cert.ReferenceIdeal Cert.ReferenceIdeal.Gen
open Idealize.ShloMosaic Idealize.ShloMosaic.TcCoe Idealize.ShloMosaic.Tactic Idealize.SL.Sem
open Cert.Proof.Spec

/-- The step of the fold on extended reals: the larger value stays, of equal ones the one of the smaller position. -/
theorem step (a b : EReal × BitVec 32) : reducer_argmax_f32_i32 (F := Ideal) a b
    = (if b.1 < a.1 then a.1 else b.1, if b.1 < a.1 ∨ (a.1 = b.1 ∧ a.2.slt b.2 = true) then a.2 else b.2) := by
  unfold reducer_argmax_f32_i32
  have h1 : FloatOps.cmpf (F := Ideal) (φ := .f32) .ogt a.1 b.1 = BitVec.ofBool (decide (b.1 < a.1)) := rfl
  have h2 : FloatOps.cmpf (F := Ideal) (φ := .f32) .une a.1 a.1 = BitVec.ofBool (decide (a.1 ≠ a.1)) := rfl
  have h3 : FloatOps.cmpf (F := Ideal) (φ := .f32) .oeq a.1 b.1 = BitVec.ofBool (decide (a.1 = b.1)) := rfl
  have h4 : IntOp.cmpi .slt a.2 b.2 = BitVec.ofBool (decide (a.2.slt b.2 = true)) := by
    rw [Bool.decide_eq_true]; rfl
  dsimp only
  rw [h1, h2, h3, h4, Words.ori_bit, Words.andi_bit, Words.ori_bit, Words.select_bit, Words.select_bit]
  simp only [ne_eq, not_true_eq_false, or_false]

section fold
variable {ι : Type} (v : ι → EReal) (p : ι → ℕ) (hv : ∀ n, v n ≠ ⊥) (hp : ∀ n, p n < 2 ^ 31)

/-- What the fold holds: nothing yet, or the largest value so far at the smallest position that has it. -/
def Kept (l : List ι) (r : EReal × BitVec 32) : Prop :=
  (l = [] ∧ r.1 = ⊥) ∨ ∃ n ∈ l, r = (v n, BitVec.ofNat 32 (p n)) ∧ ∀ m ∈ l, v m < v n ∨ (v m = v n ∧ p n ≤ p m)

include hv hp

/-- One step keeps it. -/
theorem kept_step (l : List ι) (r : EReal × BitVec 32) (n : ι) (h : Kept v p l r) :
    Kept v p (l ++ [n]) (reducer_argmax_f32_i32 (F := Ideal) r (v n, BitVec.ofNat 32 (p n))) := by
  rw [step]
  refine .inr ?_
  rcases h with ⟨rfl, h⟩ | ⟨k, hk, rfl, h⟩
  · refine ⟨n, by simp, ?_, fun m hm => ?_⟩
    · dsimp only
      rw [h, if_neg not_lt_bot, if_neg]
      rintro (h1 | ⟨h1, -⟩)
      · exact not_lt_bot h1
      · exact hv n h1.symm
    · obtain rfl : m = n := by simpa using hm
      exact .inr ⟨rfl, le_rfl⟩
  · dsimp only
    rw [Words.slt_ofNat (hp k) (hp n)]
    have hmem : ∀ m, m ∈ l ++ [n] → m ∈ l ∨ m = n := fun m hm => by simpa using hm
    by_cases h1 : v n < v k
    · rw [if_pos h1, if_pos (.inl h1)]
      refine ⟨k, List.mem_append_left _ hk, rfl, fun m hm => ?_⟩
      rcases hmem m hm with hm | rfl
      · exact h m hm
      · exact .inl h1
    · rw [if_neg h1]
      by_cases h2 : v k = v n ∧ p k < p n
      · rw [if_pos (.inr ⟨h2.1, decide_eq_true h2.2⟩)]
        refine ⟨k, List.mem_append_left _ hk, by rw [h2.1], fun m hm => ?_⟩
        rcases hmem m hm with hm | rfl
        · exact h m hm
        · exact .inr ⟨h2.1.symm, h2.2.le⟩
      · rw [if_neg (by
          rintro (h3 | ⟨h3, h4⟩)
          · exact h1 h3
          · exact h2 ⟨h3, of_decide_eq_true h4⟩)]
        refine ⟨n, by simp, rfl, fun m hm => ?_⟩
        rcases hmem m hm with hm | rfl
        · rcases lt_or_eq_of_le (not_lt.mp h1) with h3 | h3
          · rcases h m hm with h4 | ⟨h4, -⟩
            · exact .inl (h4.trans h3)
            · exact .inl (h4 ▸ h3)
          · have h5 : p n ≤ p k := not_lt.mp fun h5 => h2 ⟨h3, h5⟩
            rcases h m hm with h4 | ⟨h4, h6⟩
            · exact .inl (h3 ▸ h4)
            · exact .inr ⟨h4.trans h3, h5.trans h6⟩
        · exact .inr ⟨rfl, le_rfl⟩

/-- So the whole fold holds it. -/
theorem kept_fold (l l' : List ι) (r : EReal × BitVec 32) (h : Kept v p l' r) :
    Kept v p (l' ++ l) (l.foldl (fun r n => reducer_argmax_f32_i32 (F := Ideal) r (v n, BitVec.ofNat 32 (p n))) r) := by
  induction l generalizing l' r with
  | nil => rwa [List.append_nil]
  | cons n l ih =>
    have := ih (l' ++ [n]) _ (kept_step v p hv hp l' r n h)
    rwa [List.append_assoc] at this

end fold

/-- The result index of an entry: its sample and its output unit. -/
theorem drop_at (i : S4x2048x2048.Idx) : Shape.ReducesTo.drop reducesTo_S4x2048x2048_S4x2048_d1 i = ix2 (i 0) (i 2) := by
  funext a
  match a with
  | ⟨0, _⟩ => rfl
  | ⟨1, _⟩ => rfl

/-- The fold over the entries whose result index is `j`, listed by `g`: its position. -/
def chosen {s t : Shape} {axes : List (Fin s.rank)} {N : ℕ} (g : Fin N → s.Idx) (h : s.ReducesTo axes t) (f : EReal × BitVec 32 → EReal × BitVec 32 → EReal × BitVec 32)
    (x : s.Idx → EReal) (y : s.Idx → BitVec 32) (z : EReal × BitVec 32) : t.Idx → BitVec 32 :=
  fun j => (((List.finRange N).filter fun n => h.drop (g n) = j).foldl (fun r n => f r (x (g n), y (g n))) z).2

/-- The host's choice is that position, at every result index. -/
theorem choice_fold {s t u : Shape} {axes : List (Fin s.rank)} (f : EReal × BitVec 32 → EReal × BitVec 32 → EReal × BitVec 32) (x : FVec Ideal s .f32)
    (y : s.Idx → BitVec 32) (ix : FVec Ideal u .f32) (iy : u.Idx → BitVec 32) (h : s.ReducesTo axes t) (hu : 0 < u.numel) :
    (fun j => (Host.argReduce (F := Ideal) (φ := .f32) f x y ix iy h hu j).2)
      = chosen s.rowMajor.symm h f x y (ix (Shape.Idx.first hu), iy (Shape.Idx.first hu)) :=
  funext fun j => congrArg Prod.snd (congrFun (Ideal.argReduce_eq_reduce2 f x y ix iy h hu) j)

/-- The fold over the entries of a fiber, in any order of the entries: over entries zero and one its position is the first
    rank whose entry is one, the first of all where none is. -/
theorem fold_leading {N : ℕ} (g : Fin N ≃ S4x2048x2048.Idx) (z : EReal) (hz : z = ⊥) (y : BitVec 32) (v : FVec Ideal S4x2048x2048 .f32) (b : Fin 4) (o : Fin 2048) (C : Fin 2048 → Prop) [DecidablePred C]
    (hv : ∀ (b' : Fin 4) (d o' : Fin 2048), (v (ix3 b' d o') : EReal) ≠ ⊥) (h : ∀ d, (v (ix3 b d o) : EReal) = if C d then 1 else 0) :
    chosen g reducesTo_S4x2048x2048_S4x2048_d1 (reducer_argmax_f32_i32 (F := Ideal)) v (iotaInDim S4x2048x2048 32 1) (z, y) (ix2 b o) = BitVec.ofNat 32 (first C) := by
  have hix : ∀ i : S4x2048x2048.Idx, i = ix3 (i 0) (i 1) (i 2) := fun i => by
    funext a
    match a with
    | ⟨0, _⟩ => rfl
    | ⟨1, _⟩ => rfl
    | ⟨2, _⟩ => rfl
  unfold chosen
  generalize hl : (List.finRange N).filter (fun n => Shape.ReducesTo.drop reducesTo_S4x2048x2048_S4x2048_d1 (g n) = ix2 b o) = l
  have hmem : ∀ n, n ∈ l ↔ (g n) = ix3 b (g n 1) o := by
    intro n
    rw [← hl, List.mem_filter, decide_eq_true_iff, drop_at]
    constructor
    · rintro ⟨-, h1⟩
      have e0 : g n 0 = b := congrFun h1 0
      have e2 : g n 2 = o := congrFun h1 1
      rw [← e0, ← e2]
      exact hix _
    · intro h1
      refine ⟨List.mem_finRange _, ?_⟩
      have e0 : g n 0 = b := congrFun h1 0
      have e2 : g n 2 = o := congrFun h1 2
      rw [e0, e2]
      rfl
  have hall : ∀ d : Fin 2048, ∃ n ∈ l, (g n) = ix3 b d o := fun d =>
    ⟨g.symm (ix3 b d o), (hmem _).mpr (by rw [Equiv.apply_symm_apply]; rfl), Equiv.apply_symm_apply _ _⟩
  have hbot : ∀ n : Fin N, (v (g n) : EReal) ≠ ⊥ := fun n => by
    rw [hix (g n)]
    exact hv _ _ _
  have hpos : ∀ n : Fin N, (g n 1).val < 2 ^ 31 := fun n =>
    lt_trans (show (g n 1).val < 2048 from (g n 1).isLt) (by norm_num)
  have hkept := kept_fold (fun n : Fin N => (v (g n) : EReal)) (fun n => (g n 1).val)
    hbot hpos l [] (z, y) (.inl ⟨rfl, hz⟩)
  rw [List.nil_append] at hkept
  rcases hkept with ⟨h1, -⟩ | ⟨n, hn, h1, h2⟩
  · obtain ⟨n, hn, -⟩ := hall 0
    rw [h1] at hn
    exact absurd hn List.not_mem_nil
  · refine (congrArg Prod.snd h1).trans ?_
    show BitVec.ofNat 32 (g n 1).val = _
    have h3 := (hmem n).mp hn
    obtain ⟨d, hd⟩ : ∃ d : Fin 2048, d = g n 1 := ⟨g n 1, rfl⟩
    rw [← hd] at h3 ⊢
    have h4 : ∀ d' : Fin 2048, (v (ix3 b d' o) : EReal) < v (ix3 b d o) ∨ ((v (ix3 b d' o) : EReal) = v (ix3 b d o) ∧ d.val ≤ d'.val) := by
      intro d'
      obtain ⟨m, hm, e⟩ := hall d'
      have := h2 m hm
      dsimp only at this
      rw [e, h3] at this
      exact this
    refine congrArg (BitVec.ofNat 32) ?_
    by_cases hC : ∃ d, C d
    · obtain ⟨hlt, hf⟩ := first_spec hC
      rcases h4 ⟨first C, hlt⟩ with h5 | ⟨h5, h6⟩
      · rw [h, h, if_pos hf] at h5
        split_ifs at h5
        · exact absurd h5 (lt_irrefl _)
        · exact absurd h5 (not_lt.mpr zero_le_one)
      · rw [h, h, if_pos hf] at h5
        have hd : C d := by
          by_contra hd
          rw [if_neg hd] at h5
          exact one_ne_zero h5
        exact le_antisymm h6 (first_le hd)
    · rw [first_none fun d hd => hC ⟨d, hd⟩]
      rcases h4 0 with h5 | ⟨-, h6⟩
      · rw [h, h, if_neg (fun h => hC ⟨_, h⟩), if_neg (fun h => hC ⟨_, h⟩)] at h5
        exact absurd h5 (lt_irrefl _)
      · exact Nat.le_zero.mp h6

/-- The fold's first value is the least. -/
theorem start_bot : (constant (F := Ideal) S_ .f32 0xFF800000#32 (Shape.Idx.first h_S_) : EReal) = ⊥ := by
  show Ideal.ofBits .f32 0xFF800000#32 = ⊥
  simp [Ideal.ofBits, Ideal.ieee]

/-- The reference's choice, as the host's choice at every result index. -/
theorem leading_choice (v : FVec Ideal S4x2048x2048 .f32) : leading (F := Ideal) v = fun j =>
    (Host.argReduce (F := Ideal) reducer_argmax_f32_i32 v (iotaInDim S4x2048x2048 32 1) (constant S_ .f32 0xFF800000#32) (constantI S_ 32 0#32)
      reducesTo_S4x2048x2048_S4x2048_d1 h_S_ j).2 := by
  unfold leading
  rfl

/-- The chosen rank, over entries zero and one: the first rank whose entry is one, the first of all where none is. -/
theorem leading_at (v : FVec Ideal S4x2048x2048 .f32) (b : Fin 4) (o : Fin 2048) (C : Fin 2048 → Prop) [DecidablePred C]
    (hv : ∀ (b' : Fin 4) (d o' : Fin 2048), (v (ix3 b' d o') : EReal) ≠ ⊥) (h : ∀ d, (v (ix3 b d o) : EReal) = if C d then 1 else 0) :
    leading (F := Ideal) v (ix2 b o) = BitVec.ofNat 32 (first C) := by
  have e := (leading_choice v).trans (choice_fold _ v _ _ _ reducesTo_S4x2048x2048_S4x2048_d1 h_S_)
  rw [e]
  exact fold_leading S4x2048x2048.rowMajor.symm _ start_bot _ v b o C hv h

section real
variable (x : FVec Ideal S4x2048 .f32) (w : FVec Ideal S2048x2048 .f32)
variable (T : Fin 4 → Fin 2048 → ℝ) (hT : ∀ (b : Fin 4) (j : Fin 2048), x (ix2 b j) = ((T b j : ℝ) : EReal))
variable (W : Fin 2048 → Fin 2048 → ℝ) (hW : ∀ (j o : Fin 2048), w (ix2 j o) = ((W j o : ℝ) : EReal))
include hT hW

/-- The reference's value on real inputs. -/
theorem out_at (b : Fin 4) (o : Fin 2048) : out (F := Ideal) x w (ix2 b o) = value (by decide : 0 < 2048) (T b) (fun j => W j o) := by
  classical
  have hv : ∀ (b' : Fin 4) (d o' : Fin 2048),
      (valid (F := Ideal) (candidate (rows x w) (times x)) (running (rows x w)) (times x) (ix3 b' d o') : EReal) ≠ ⊥ := by
    intro b' d o'
    rw [valid_at x w T hT W hW]
    split_ifs
    · exact EReal.coe_ne_bot 1
    · exact EReal.coe_ne_bot 0
  have hl := leading_at _ b o (admissible (T b) fun j => W j o) hv (fun d => valid_at x w T hT W hW b d o)
  have hr : first (admissible (T b) fun j => W j o) < 2048 := first_lt (by decide) _
  unfold out value
  rw [cut_at, pickAt_at _ _ b o ⟨_, hr⟩ (pickSlots_at _ b o ⟨_, hr⟩ hl), candidate_at x w T hT W hW]

end real

end Cert.Proof.Ref

end
-- ==== Proof.Finite.lean ====
/-
  The precondition: where it holds, every entry of the two arguments is a real number.
-/
module

public import proofs.«01_k».proof.Pre_finite
public import proofs.«01_k».proof.Proof.Words
public import Idealize.ShloMosaic.Lib.ReduceAll
public import Idealize.ShloMosaic.Lib.Pointwise

@[expose] public section

set_option maxRecDepth 16384

noncomputable section

namespace Cert.Proof.Pre

open Idealize.ShloMosaic Idealize.ShloMosaic.Tactic
open Cert.Pre_finite

/-- What the precondition's operations take of the shapes. -/
theorem facts : Cert.Pre_finite.Facts where
  bcast_S_S4x2048 := by decide
  reducesTo_S4x2048_S_d0_1 := by decide
  h_S_ := by decide
  bcast_S_S2048x2048 := by decide
  reducesTo_S2048x2048_S_d0_1 := by decide

/-- There is one result index of a whole reduction. -/
instance single : Subsingleton S_.Idx := ⟨fun _ _ => funext fun a => a.elim0⟩

/-- The word of positive infinity. -/
theorem infinity : Ideal.ofBits .f32 0x7F800000#32 = (⊤ : EReal) := by
  simp [Ideal.ofBits, Ideal.ieee]

/-- A value whose magnitude is below infinity is a real number. -/
theorem real_of_lt {v : EReal} (h : max v (-v) < ⊤) : ((v.toReal : ℝ) : EReal) = v := by
  refine EReal.coe_toReal (fun e => ?_) (fun e => ?_)
  · subst e
    exact absurd h (not_lt.mpr (le_max_left _ _))
  · subst e
    exact absurd h (not_lt.mpr (le_max_right _ _))

/-- A whole conjunction of "the magnitude is below infinity" that is one makes every entry a real number. -/
theorem all_real {s : Shape} {axes : List (Fin s.rank)} (x : FVec Ideal s .f32) (hb : S_.BroadcastsInDim s (![] : Fin 0 → Fin s.rank)) (h : s.ReducesTo axes S_) (hu : 0 < S_.numel)
    (j : S_.Idx) (e : Host.reduce IntOp.andi (cmpf (F := Ideal) .olt (Host.absf x) (broadcastInDim s ![] hb (constant S_ .f32 0x7F800000#32)))
      (constantI S_ 1 1#1) h hu j = 1#1) (i : s.Idx) : (((x i : EReal).toReal : ℝ) : EReal) = x i := by
  refine real_of_lt ?_
  have h1 := Host.reduce_andi_all _ _ h hu j e i
  have h2 : BitVec.ofBool (decide (max (x i : EReal) (-(x i : EReal)) < Ideal.ofBits .f32 0x7F800000#32)) = 1#1 := h1
  rw [Words.bit_eq_one, infinity] at h2
  exact h2

/-- The precondition makes every entry of both arguments a real number. -/
theorem real_of_pre [Cert.Pre_finite.Facts] (x : FVec Ideal S4x2048 .f32) (w : FVec Ideal S2048x2048 .f32) (h : fn (F := Ideal) x w = fun _ => 1#1) :
    (∀ i, (((x i : EReal).toReal : ℝ) : EReal) = x i) ∧ ∀ i, (((w i : EReal).toReal : ℝ) : EReal) = w i := by
  have h0 := congrFun h (Shape.Idx.first (Cert.Pre_finite.Facts.h_S_))
  unfold fn at h0
  have h1 := (Words.andi_eq_one _ _).mp h0
  exact ⟨all_real x _ _ _ _ h1.1, all_real w _ _ _ _ h1.2⟩

end Cert.Proof.Pre

end
-- ==== Proof.lean ====
/-
  The certificate: the three frames, the kernel's text kept by its ideal reading, and the equality of the kernel's and the
  reference's results over the extended reals where every entry of both arguments is finite.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelArray
public import proofs.«01_k».proof.Proof.RefPick
public import proofs.«01_k».proof.Proof.Finite
public import Idealize.ShloMosaic.Adequacy
public import Idealize.ShloMosaic.Init

@[expose] public section

noncomputable section

namespace Cert.Proof

open Idealize.ShloMosaic Idealize.ShloMosaic.TcCoe Idealize.ShloMosaic.Tactic Idealize.SL.Sem

/-- On real arguments the reference's array is the kernel's. -/
theorem same_result (x : FVec Ideal Cert.ReferenceIdeal.S4x2048 .f32) (w : FVec Ideal Cert.ReferenceIdeal.S2048x2048 .f32)
    (T : Fin 4 → Fin 2048 → ℝ) (hT : ∀ (b : Fin 4) (j : Fin 2048), x (ix2 b j) = ((T b j : ℝ) : EReal))
    (W : Fin 2048 → Fin 2048 → ℝ) (hW : ∀ (j o : Fin 2048), w (ix2 j o) = ((W j o : ℝ) : EReal)) :
    Ref.out (F := Ideal) x w = Ker.result T W := by
  funext i
  obtain ⟨b, o, rfl⟩ : ∃ (b : Fin 4) (o : Fin 2048), i = ix2 b o :=
    ⟨i 0, i 1, funext fun a => by
      match a with
      | ⟨0, _⟩ => rfl
      | ⟨1, _⟩ => rfl⟩
  exact Ref.out_at x w T hT W hW b o

/-- The kernel and the reference end with the same array where every entry of both arguments is finite. -/
theorem algebraic : Cert.algebraic_KernelIdeal_ReferenceIdeal_pre_finite (hKernelIdeal := Cert.KernelIdeal.Gen.facts)
    (hReferenceIdeal := Cert.ReferenceIdeal.Gen.facts) (hPre_finite := Pre.facts) := by
  intro m g m' g' hpre hm
  have hreal := fun c => @Pre.real_of_pre Pre.facts _ _ (hpre c)
  refine ⟨fun c => Ker.result (fun b j => (Ker.arg0 m c (ix2 b j) : EReal).toReal) (fun j o => (Ker.arg1 m c (ix2 j o) : EReal).toReal), ?_, ?_⟩
  · exact Ker.run m g _ (fun c b j => ((hreal c).1 (ix2 b j)).symm) _ (fun c j o => ((hreal c).2 (ix2 j o)).symm)
  · refine (θ_run Cert.ReferenceIdeal.defs _ _).mono (fun r h c => ⟨(h c).1.trans ?_, (h c).2⟩) (Ref.run m' g')
    rw [(hm c).1, (hm c).2]
    exact same_result _ _ _ (fun b j => ((hreal c).1 (ix2 b j)).symm) _ (fun j o => ((hreal c).2 (ix2 j o)).symm)

/-- Every claim of the certificate. -/
theorem claim : Cert.Claim :=
  ⟨Cert.Kernel.Gen.facts, Cert.KernelIdeal.Gen.facts, Cert.ReferenceIdeal.Gen.facts, Pre.facts,
    fun m g _ => Cert.Kernel.Gen.frame m g,
    fun m g _ => Cert.KernelIdeal.Gen.frame m g,
    fun m g _ => Cert.KernelIdeal.Gen.frame m g,
    fun m g _ => Ref.frame m g,
    fun m g _ => Ref.frame m g,
    trivial,
    algebraic⟩

end Cert.Proof

end
